-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_k" .f32 0x3D4CCCCD#32 ((20⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x256 : Shape := ⟨2, ![4096, 256]⟩
abbrev S4096x4096 : Shape := ⟨2, ![4096, 4096]⟩
abbrev S4096x16 : Shape := ⟨2, ![4096, 16]⟩
abbrev S256x256 : Shape := ⟨2, ![256, 256]⟩
abbrev S16x256 : Shape := ⟨2, ![16, 256]⟩
abbrev S256x2 : Shape := ⟨2, ![256, 2]⟩
abbrev S2 : Shape := ⟨1, ![2]⟩
abbrev S1x6 : Shape := ⟨2, ![1, 6]⟩
abbrev S1 : Shape := ⟨1, ![1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_
  bcast_S_S256x2 : S_.BroadcastsInDim S256x2 (![] : Fin 0 → Fin S256x2.rank)
  reducesTo_S256x2_S_d0_1 : S256x2.ReducesTo [0, 1] S_

variable [Facts]

def fn_part1 {F : FTy → Type} [FloatOps F] (main_arg4 : FVec F S16x256 .f32) (main_arg5 : FVec F S256x2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S16x256 .f32 := Host.absf main_arg4
  let main_cst_6 : FVec F S_ .f32 := constant S_ .f32 0x7F800000#32
  let main_v20 : FVec F S16x256 .f32 := broadcastInDim S16x256 ![] bcast_S_S16x256 main_cst_6
  let main_v21 : IVec S16x256 1 := cmpf .olt main_v19 main_v20
  let main_c_7 : IVec S_ 1 := constantI S_ 1 1#1
  let main_v22 : IVec S_ 1 := (fun x v => Host.reduce IntOp.andi x v reducesTo_S16x256_S_d0_1 h_S_) main_v21 main_c_7
  let main_v23 : IVec S_ 1 := andi main_v18 main_v22
  let main_v24 : FVec F S256x2 .f32 := Host.absf main_arg5
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  main_v28

def fn {F : FTy → Type} [FloatOps F] (main_arg0 : FVec F S4096x256 .f32) (main_arg1 : FVec F S4096x4096 .f32) (main_arg2 : FVec F S4096x16 .f32) (main_arg3 : FVec F S256x256 .f32) (main_arg4 : FVec F S16x256 .f32) (main_arg5 : FVec F S256x2 .f32) (main_arg6 : FVec F S2 .f32) (main_arg7 : FVec F S1x6 .f32) (main_arg8 : FVec F S1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S4096x256 : Shape := ⟨2, ![4096, 256]⟩
abbrev S4096x4096 : Shape := ⟨2, ![4096, 4096]⟩
abbrev S4096x16 : Shape := ⟨2, ![4096, 16]⟩
abbrev S256x256 : Shape := ⟨2, ![256, 256]⟩
abbrev S16x256 : Shape := ⟨2, ![16, 256]⟩
abbrev S256x2 : Shape := ⟨2, ![256, 2]⟩
abbrev S2 : Shape := ⟨1, ![2]⟩
abbrev S1x6 : Shape := ⟨2, ![1, 6]⟩
abbrev S1 : Shape := ⟨1, ![1]⟩
abbrev S1x2 : Shape := ⟨2, ![1, 2]⟩
abbrev S1x1 : Shape := ⟨2, ![1, 1]⟩
abbrev S3x512x4096 : Shape := ⟨3, ![3, 512, 4096]⟩
abbrev S3 : Shape := ⟨1, ![3]⟩
abbrev S_ : Shape := ⟨0, ![]⟩
abbrev S1x128x4096 : Shape := ⟨3, ![1, 128, 4096]⟩
abbrev S128x4096 : Shape := ⟨2, ![128, 4096]⟩
abbrev S1x512x4096 : Shape := ⟨3, ![1, 512, 4096]⟩
abbrev S512x4096 : Shape := ⟨2, ![512, 4096]⟩
abbrev S256x1 : Shape := ⟨2, ![256, 1]⟩
abbrev S128x256 : Shape := ⟨2, ![128, 256]⟩
abbrev S128x16 : Shape := ⟨2, ![128, 16]⟩
abbrev S128x1 : Shape := ⟨2, ![128, 1]⟩
abbrev S1x128 : Shape := ⟨2, ![1, 128]⟩
abbrev S512x256 : Shape := ⟨2, ![512, 256]⟩
abbrev S512x16 : Shape := ⟨2, ![512, 16]⟩
abbrev S512x1 : Shape := ⟨2, ![512, 1]⟩
abbrev S4x128 : Shape := ⟨2, ![4, 128]⟩
abbrev S1x384x4096 : Shape := ⟨3, ![1, 384, 4096]⟩
abbrev S384x4096 : Shape := ⟨2, ![384, 4096]⟩
abbrev S384x256 : Shape := ⟨2, ![384, 256]⟩
abbrev S384x16 : Shape := ⟨2, ![384, 16]⟩
abbrev S384x1 : Shape := ⟨2, ![384, 1]⟩
abbrev S3x128 : Shape := ⟨2, ![3, 128]⟩
abbrev S16x128 : Shape := ⟨2, ![16, 128]⟩
abbrev S1x16x128 : Shape := ⟨3, ![1, 16, 128]⟩
abbrev S1x1x1 : Shape := ⟨3, ![1, 1, 1]⟩

abbrev nBuf : Space → Nat
  | .hbm => 13
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x16, .f32⟩
  | .hbm, ⟨3, _⟩ => ⟨S256x256, .f32⟩
  | .hbm, ⟨4, _⟩ => ⟨S16x256, .f32⟩
  | .hbm, ⟨5, _⟩ => ⟨S256x2, .f32⟩
  | .hbm, ⟨6, _⟩ => ⟨S2, .f32⟩
  | .hbm, ⟨7, _⟩ => ⟨S1x6, .f32⟩
  | .hbm, ⟨8, _⟩ => ⟨S1, .f32⟩
  | .hbm, ⟨9, _⟩ => ⟨S1x2, .f32⟩
  | .hbm, ⟨10, _⟩ => ⟨S1x1, .f32⟩
  | .hbm, ⟨11, _⟩ => ⟨S1x1, .f32⟩
  | .hbm, ⟨12, _⟩ => ⟨S1, .f32⟩
  | .local _ .vmem, ⟨0, _⟩ => ⟨S4096x16, .f32⟩
  | .local _ .vmem, ⟨1, _⟩ => ⟨S256x256, .f32⟩
  | .local _ .vmem, ⟨2, _⟩ => ⟨S16x256, .f32⟩
  | .local _ .vmem, ⟨3, _⟩ => ⟨S256x2, .f32⟩
  | .local _ .vmem, ⟨4, _⟩ => ⟨S1x2, .f32⟩
  | .local _ .vmem, ⟨5, _⟩ => ⟨S1x6, .f32⟩
  | .local _ .vmem, ⟨6, _⟩ => ⟨S1x1, .f32⟩
  | .local _ .vmem, ⟨7, _⟩ => ⟨S1x1, .f32⟩
  | .local _ .vmem, ⟨8, _⟩ => ⟨S4096x256, .f32⟩
  | .local _ .vmem, ⟨9, _⟩ => ⟨S3x512x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "inv_k" => some ((20⁻¹ : ℝ) : EReal)
  | _ => none
-- ==== ReferenceIdeal.lean ====
abbrev S4096x256 : Shape := ⟨2, ![4096, 256]⟩
abbrev S4096x4096 : Shape := ⟨2, ![4096, 4096]⟩
abbrev S4096x16 : Shape := ⟨2, ![4096, 16]⟩
abbrev S256x256 : Shape := ⟨2, ![256, 256]⟩
abbrev S16x256 : Shape := ⟨2, ![16, 256]⟩
abbrev S256x2 : Shape := ⟨2, ![256, 2]⟩
abbrev S2 : Shape := ⟨1, ![2]⟩
abbrev S1x6 : Shape := ⟨2, ![1, 6]⟩
abbrev S1 : Shape := ⟨1, ![1]⟩
abbrev S_ : Shape := ⟨0, ![]⟩
abbrev S4096x2 : Shape := ⟨2, ![4096, 2]⟩
abbrev S1x2 : Shape := ⟨2, ![1, 2]⟩
abbrev S4096x1 : Shape := ⟨2, ![4096, 1]⟩
abbrev S4096 : Shape := ⟨1, ![4096]⟩
abbrev S2048 : Shape := ⟨1, ![2048]⟩
abbrev S20 : Shape := ⟨1, ![20]⟩
abbrev S6 : Shape := ⟨1, ![6]⟩
abbrev S6x1 : Shape := ⟨2, ![6, 1]⟩
abbrev S1x1 : Shape := ⟨2, ![1, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x16, .f32⟩
  | .hbm, ⟨3, _⟩ => ⟨S256x256, .f32⟩
  | .hbm, ⟨4, _⟩ => ⟨S16x256, .f32⟩
  | .hbm, ⟨5, _⟩ => ⟨S256x2, .f32⟩
  | .hbm, ⟨6, _⟩ => ⟨S2, .f32⟩
  | .hbm, ⟨7, _⟩ => ⟨S1x6, .f32⟩
  | .hbm, ⟨8, _⟩ => ⟨S1, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S4096x2, .f32⟩
  | .hbm, ⟨17, _⟩ => ⟨S1x2, .f32⟩
  | .hbm, ⟨18, _⟩ => ⟨S4096x2, .f32⟩
  | .hbm, ⟨19, _⟩ => ⟨S4096x2, .f32⟩
  | .hbm, ⟨20, _⟩ => ⟨S4096x1, .f32⟩
  | .hbm, ⟨21, _⟩ => ⟨S4096, .f32⟩
  | .hbm, ⟨22, _⟩ => ⟨S4096x1, .f32⟩
  | .hbm, ⟨23, _⟩ => ⟨S4096, .f32⟩
  | .hbm, ⟨24, _⟩ => ⟨S4096, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S20, .f32⟩
  | .hbm, ⟨34, _⟩ => ⟨S20, .i32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S20, .f32⟩
  | .hbm, ⟨46, _⟩ => ⟨S20, .i32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S1, .f32⟩
  | .hbm, ⟨54, _⟩ => ⟨S1, .f32⟩
  | .hbm, ⟨55, _⟩ => ⟨S1, .f32⟩
  | .hbm, ⟨56, _⟩ => ⟨S1, .f32⟩
  | .hbm, ⟨57, _⟩ => ⟨S6, .f32⟩
  | .hbm, ⟨58, _⟩ => ⟨S1x6, .f32⟩
  | .hbm, ⟨59, _⟩ => ⟨S6x1, .f32⟩
  | .hbm, ⟨60, _⟩ => ⟨S1x1, .f32⟩
  | .hbm, ⟨61, _⟩ => ⟨S1x1, .f32⟩
  | .hbm, ⟨62, _⟩ => ⟨S1x1, .f32⟩
  | .hbm, ⟨63, _⟩ => ⟨S1, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_values : Ref sig .tc := ⟨.hbm, 33, rfl⟩
abbrev main_indices : Ref sig .tc := ⟨.hbm, 34, rfl⟩
abbrev main_cst_2 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_values_7 : Ref sig .tc := ⟨.hbm, 45, rfl⟩
abbrev main_indices_8 : Ref sig .tc := ⟨.hbm, 46, rfl⟩
abbrev main_cst_9 : Ref sig .tc := ⟨.hbm, 47, rfl⟩
abbrev main_v24 : Ref sig .tc := ⟨.hbm, 48, rfl⟩
abbrev main_cst_10 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== Proof.OnBits.Slots.lean ====
module

public import proofs.«01_k».proof.Proof.OnBits.KernelValue
public import Idealize.ShloMosaic.Lib.ViewIndex
public import Idealize.ShloMosaic.Lib.VecWindow

@[expose] public section

noncomputable section

/-! What a load returns: from an untouched operand, and from the ring of copied row blocks. -/

namespace Cert.OnBits

open Idealize.ShloMosaic

variable {sig : RefSig} {κ : Kind} {Val : EltTy → Type} {sp : Space} {s s' : Shape} {e : EltTy}

/-- A load from a whole operand holding `x`. -/
def loaded {m : Memref sig κ sp s e} (hm : m.IsWhole) (r : Rect s) (x : s.Idx → Val e) : r.shape.Idx → Val e :=
  m.view.readAt Val r.toLoadRect (hm.unread x)

/-- It returns the part of the contents the rectangle selects. -/
theorem loaded_eq_cut {m : Memref sig κ sp s e} (hm : m.IsWhole) (r : Rect s) (x : s.Idx → Val e) :
    loaded hm r x = cut r x := by
  funext i
  unfold loaded
  rw [View.readAt_apply, hm.read_unread]; rfl

/-- A load of a whole array's own sizes returns its contents. -/
theorem loaded_full {m : Memref sig κ sp s e} (hm : m.IsWhole) {off : Fin s.rank → ℕ}
    (inb : ∀ a, off a + s.size a ≤ s.size a) (x : s.Idx → Val e) :
    loaded hm (Rect.unit off s.size inb) x = x := by
  unfold loaded
  rw [View.readAt_full, hm.read_unread]

/-- Loading the rectangle a re-shaped copy has just filled returns the copied data. -/
theorem slot_same (v : View sig κ sp s e) (r : Rect s) (h : s'.numel = r.shape.numel) (hc : r.shape.ShapeCasts s')
    (f : v.ty.Contents Val) (w : s'.Idx → Val e) :
    shapeCast s' (v.readAt Val r.toLoadRect (((v.slice r).reshape s' h).write Val f w Finset.univ)) hc = w :=
  funext fun x => View.read_write_reshape (v.slice r) h f w x

/-- A copy into a disjoint rectangle does not change what a load returns. -/
theorem slot_other (v : View sig κ sp s e) (r r' : Rect s) (h : s'.numel = r'.shape.numel) (hd : Disjoint r.set r'.set)
    (f : v.ty.Contents Val) (w : s'.Idx → Val e) :
    v.readAt Val r.toLoadRect (((v.slice r').reshape s' h).write Val f w Finset.univ) = v.readAt Val r.toLoadRect f := by
  have hd' : Disjoint (v.slice r).set (v.slice r').set := View.disjoint_slice hd
  rw [View.readAt_rect, View.readAt_rect]
  refine View.read_congr fun i hi => View.write_of_not_mem _ _ _ ?_
  rw [View.setOn_univ, View.set_reshape]
  exact fun hi' => Finset.disjoint_left.mp hd' hi hi'

/-- Loading a slot after it was filled and one other slot was filled later returns the slot's data. -/
theorem slot_one {s₁ : Shape} (v : View sig κ sp s e) (r r₁ : Rect s) (h : s'.numel = r.shape.numel)
    (h₁ : s₁.numel = r₁.shape.numel) (hc : r.shape.ShapeCasts s') (hd₁ : Disjoint r.set r₁.set)
    (f : v.ty.Contents Val) (w : s'.Idx → Val e) (w₁ : s₁.Idx → Val e) :
    shapeCast s' (v.readAt Val r.toLoadRect (((v.slice r₁).reshape s₁ h₁).write Val
      (((v.slice r).reshape s' h).write Val f w Finset.univ) w₁ Finset.univ)) hc = w := by
  rw [slot_other v r r₁ h₁ hd₁, slot_same]

/-- Loading a slot after it was filled and two other slots were filled later returns the slot's data. -/
theorem slot_two {s₁ s₂ : Shape} (v : View sig κ sp s e) (r r₁ r₂ : Rect s) (h : s'.numel = r.shape.numel)
    (h₁ : s₁.numel = r₁.shape.numel) (h₂ : s₂.numel = r₂.shape.numel) (hc : r.shape.ShapeCasts s')
    (hd₁ : Disjoint r.set r₁.set) (hd₂ : Disjoint r.set r₂.set)
    (f : v.ty.Contents Val) (w : s'.Idx → Val e) (w₁ : s₁.Idx → Val e) (w₂ : s₂.Idx → Val e) :
    shapeCast s' (v.readAt Val r.toLoadRect (((v.slice r₂).reshape s₂ h₂).write Val
      (((v.slice r₁).reshape s₁ h₁).write Val (((v.slice r).reshape s' h).write Val f w Finset.univ) w₁ Finset.univ)
      w₂ Finset.univ)) hc = w := by
  rw [slot_other v r r₂ h₂ hd₂, slot_one v r r₁ h h₁ hc hd₁]

end Cert.OnBits

end
-- ==== Proof.OnBits.Body.lean ====
module

public import proofs.«01_k».proof.Proof.OnBits.Launch
public import proofs.«01_k».proof.Proof.OnBits.Slots
public import proofs.«01_k».proof.Proof.Gen.Kernel.Skeleton

@[expose] public section

set_option maxRecDepth 16384

noncomputable section

namespace Cert.OnBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

set_option maxHeartbeats 2000000 in
set_option sl_exec.dmaWindow true in
set_option sl_exec.dmaWindowSet true in
theorem body_run (c : Dev nD)
    (arg2 : Memref sig .tc .vmem S4096x16 .f32) (harg2 : arg2.IsWhole)
    (arg3 : Memref sig .tc .vmem S256x256 .f32) (harg3 : arg3.IsWhole)
    (arg4 : Memref sig .tc .vmem S16x256 .f32) (harg4 : arg4.IsWhole)
    (arg5 : Memref sig .tc .vmem S256x2 .f32) (harg5 : arg5.IsWhole)
    (arg6 : Memref sig .tc .vmem S1x2 .f32) (harg6 : arg6.IsWhole)
    (arg7 : Memref sig .tc .vmem S1x6 .f32) (harg7 : arg7.IsWhole)
    (arg8 : Memref sig .tc .vmem S1x1 .f32) (harg8 : arg8.IsWhole)
    (arg9 : Memref sig .tc .vmem S1x1 .f32) (harg9 : arg9.IsWhole)
    (arg10 : Memref sig .tc .vmem S4096x256 .f32) (harg10 : arg10.IsWhole)
    (arg11 : Memref sig .tc .vmem S3x512x4096 .f32) (harg11 : arg11.IsWhole)
    (x0 : Vec F S4096x16 .f32) (x1 : Vec F S256x256 .f32) (x2 : Vec F S16x256 .f32) (x3 : Vec F S256x2 .f32)
    (x4 : Vec F S1x2 .f32) (x5 : Vec F S1x6 .f32) (x6 : Vec F S1x1 .f32)
    (fx : BufOf (F := F) c xHbm) (fa : BufOf (F := F) c adjHbm) :
    ∀ (W : Waits sig Unit) (K : PUnit → sProp 𝕄),
      iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare x6 ∗ (∃ d, owns (c : Thread nD τ) arg9 fullShare d)
          ∗ (∃ d, owns (c : Thread nD τ) arg10 fullShare d) ∗ (∃ d, owns (c : Thread nD τ) arg11 fullShare d)
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0
          ∗ holds c xHbm fx ∗ holds c adjHbm fa ∗ owes (c : Thread nD τ) 0 W
          ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4 ∗ owns (c : Thread nD τ) arg7 fullShare x5
              ∗ owns (c : Thread nD τ) arg8 fullShare x6 ∗ owns (c : Thread nD τ) arg9 fullShare (kernelOut fx fa x0 x1 x2 x3 x4 x5 x6)
              ∗ (∃ d, owns (c : Thread nD τ) arg10 fullShare d) ∗ (∃ d, owns (c : Thread nD τ) arg11 fullShare d)
              ∗ semVal ((c : Thread nD τ), SemLoc.dma 8) 0 ∗ semVal ((c : Thread nD τ), SemLoc.dma 9) 0
              ∗ semVal ((c : Thread nD τ), SemLoc.dma 10) 0 ∗ semVal ((c : Thread nD τ), SemLoc.dma 11) 0
              ∗ holds c xHbm fx ∗ holds c adjHbm fa ∗ (∃ W', owes (c : Thread nD τ) 0 W')) -∗ K ⟨⟩))
        ⊢ wp frame (wpE (defs₀ (F := F)) Variants.none c none) Set.univ
            (cc0__fused_kernel (Memref.whole main_arg0) (Memref.isWhole_whole _) (Memref.whole main_arg1)
              (Memref.isWhole_whole _) arg2 harg2 arg3 harg3 arg4 harg4 arg5 harg5 arg6 harg6 arg7 harg7 arg8 harg8
              arg9 harg9 arg10 harg10 arg11 harg11 cc0_scratch2 cc0_scratch3) K := by
  intro W K
  simp only [cc0__fused_kernel_eq_skeleton]; unfold cc0__fused_kernel_skel
  simp only [k0_part24_eq_skeleton, k0_part1_eq_skeleton, k0_part2_eq_skeleton, k0_part3_eq_skeleton,
    k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton,
    k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, ⟨%ds0, %fs0, -, HS0⟩, ⟨%ds1, %fs1, -, HS1⟩, Hq0, Hq1, Hq2, Hq3, Hh0, Hh1, HW, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_full]
    have ex : body_run.sl.v15 c arg10 fx = fx := View.readCov_full ..
    have e0 : shapeCast S128x4096 (body_run.sl.v31 c arg11 fa fs1) shapeCasts_S1x128x4096_S128x4096 = adjAt 128 0 inb_S4096x4096_S128x4096_0_0 fa :=
      slot_two _ _ _ _ _ _ _ _ (Rect.unit_disjoint 0 (by decide)) (Rect.unit_disjoint 0 (by decide)) _ _ _ _
    have e1 : shapeCast S512x4096 (body_run.sl.v54 c arg11 fa fs1) shapeCasts_S1x512x4096_S512x4096 = adjAt 512 128 inb_S4096x4096_S512x4096_128_0 fa :=
      slot_two _ _ _ _ _ _ _ _ (Rect.unit_disjoint 0 (by decide)) (Rect.unit_disjoint 0 (by decide)) _ _ _ _
    have e2 : shapeCast S512x4096 (body_run.sl.v77 c arg11 fa fs1) shapeCasts_S1x512x4096_S512x4096 = adjAt 512 640 inb_S4096x4096_S512x4096_640_0 fa :=
      slot_two _ _ _ _ _ _ _ _ (Rect.unit_disjoint 0 (by decide)) (Rect.unit_disjoint 0 (by decide)) _ _ _ _
    have e3 : shapeCast S512x4096 (body_run.sl.v100 c arg11 fa fs1) shapeCasts_S1x512x4096_S512x4096 = adjAt 512 1152 inb_S4096x4096_S512x4096_1152_0 fa :=
      slot_two _ _ _ _ _ _ _ _ (Rect.unit_disjoint 0 (by decide)) (Rect.unit_disjoint 0 (by decide)) _ _ _ _
    have e4 : shapeCast S384x4096 (body_run.sl.v123 c arg11 fa fs1) shapeCasts_S1x384x4096_S384x4096 = adjAt 384 1664 inb_S4096x4096_S384x4096_1664_0 fa :=
      slot_two _ _ _ _ _ _ _ _ (Rect.unit_disjoint 0 (by decide)) (Rect.unit_disjoint 0 (by decide)) _ _ _ _
    have e5 : shapeCast S384x4096 (body_run.sl.v504 c arg11 fa fs1) shapeCasts_S1x384x4096_S384x4096 = adjAt 384 2048 inb_S4096x4096_S384x4096_2048_0 fa :=
      slot_two _ _ _ _ _ _ _ _ (Rect.unit_disjoint 0 (by decide)) (Rect.unit_disjoint 0 (by decide)) _ _ _ _
    have e6 : shapeCast S512x4096 (body_run.sl.v527 c arg11 fa fs1) shapeCasts_S1x512x4096_S512x4096 = adjAt 512 2432 inb_S4096x4096_S512x4096_2432_0 fa :=
      slot_two _ _ _ _ _ _ _ _ (Rect.unit_disjoint 0 (by decide)) (Rect.unit_disjoint 0 (by decide)) _ _ _ _
    have e7 : shapeCast S512x4096 (body_run.sl.v550 c arg11 fa fs1) shapeCasts_S1x512x4096_S512x4096 = adjAt 512 2944 inb_S4096x4096_S512x4096_2944_0 fa :=
      slot_two _ _ _ _ _ _ _ _ (Rect.unit_disjoint 0 (by decide)) (Rect.unit_disjoint 0 (by decide)) _ _ _ _
    have e8 : shapeCast S512x4096 (body_run.sl.v568 c arg11 fa fs1) shapeCasts_S1x512x4096_S512x4096 = adjAt 512 3456 inb_S4096x4096_S512x4096_3456_0 fa :=
      slot_one _ _ _ _ _ _ (Rect.unit_disjoint 0 (by decide)) _ _ _
    have e9 : shapeCast S128x4096 (body_run.sl.v586 c arg11 fa fs1) shapeCasts_S1x128x4096_S128x4096 = adjAt 128 3968 inb_S4096x4096_S128x4096_3968_0 fa :=
      slot_same _ _ _ _ _ _
    refine Eq.trans (b := finish
        (scoresA
          (shapeCast S128x4096 (body_run.sl.v31 c arg11 fa fs1) shapeCasts_S1x128x4096_S128x4096)
          (shapeCast S512x4096 (body_run.sl.v54 c arg11 fa fs1) shapeCasts_S1x512x4096_S512x4096)
          (shapeCast S512x4096 (body_run.sl.v77 c arg11 fa fs1) shapeCasts_S1x512x4096_S512x4096)
          (shapeCast S512x4096 (body_run.sl.v100 c arg11 fa fs1) shapeCasts_S1x512x4096_S512x4096)
          (shapeCast S384x4096 (body_run.sl.v123 c arg11 fa fs1) shapeCasts_S1x384x4096_S384x4096)
          (loaded harg2 (Rect.unit (s := S4096x16) ![0, 0] S128x16.size inb_S4096x16_S128x16_0_0) x0)
          (loaded harg2 (Rect.unit (s := S4096x16) ![128, 0] S512x16.size inb_S4096x16_S512x16_128_0) x0)
          (loaded harg2 (Rect.unit (s := S4096x16) ![640, 0] S512x16.size inb_S4096x16_S512x16_640_0) x0)
          (loaded harg2 (Rect.unit (s := S4096x16) ![1152, 0] S512x16.size inb_S4096x16_S512x16_1152_0) x0)
          (loaded harg2 (Rect.unit (s := S4096x16) ![1664, 0] S384x16.size inb_S4096x16_S384x16_1664_0) x0)
          (trunk (body_run.sl.v15 c arg10 fx) (loaded harg3 (Rect.unit (s := S256x256) ![0, 0] S256x256.size inb_S256x256_S256x256_0_0) x1))
          (loaded harg4 (Rect.unit (s := S16x256) ![0, 0] S16x256.size inb_S16x256_S16x256_0_0) x2)
          (subf (loaded harg5 (Rect.unit (s := S256x2) ![0, 1] S256x1.size inb_S256x2_S256x1_0_1) x3)
            (loaded harg5 (Rect.unit (s := S256x2) ![0, 0] S256x1.size inb_S256x2_S256x1_0_0) x3))
          (Scalar.subf (only (loaded harg6 (Rect.unit (s := S1x2) ![0, 1] S1x1.size inb_S1x2_S1x1_0_1) x4))
            (only (loaded harg6 (Rect.unit (s := S1x2) ![0, 0] S1x1.size inb_S1x2_S1x1_0_0) x4))))
        (scoresB
          (shapeCast S384x4096 (body_run.sl.v504 c arg11 fa fs1) shapeCasts_S1x384x4096_S384x4096)
          (shapeCast S512x4096 (body_run.sl.v527 c arg11 fa fs1) shapeCasts_S1x512x4096_S512x4096)
          (shapeCast S512x4096 (body_run.sl.v550 c arg11 fa fs1) shapeCasts_S1x512x4096_S512x4096)
          (shapeCast S512x4096 (body_run.sl.v568 c arg11 fa fs1) shapeCasts_S1x512x4096_S512x4096)
          (shapeCast S128x4096 (body_run.sl.v586 c arg11 fa fs1) shapeCasts_S1x128x4096_S128x4096)
          (loaded harg2 (Rect.unit (s := S4096x16) ![2048, 0] S384x16.size inb_S4096x16_S384x16_2048_0) x0)
          (loaded harg2 (Rect.unit (s := S4096x16) ![2432, 0] S512x16.size inb_S4096x16_S512x16_2432_0) x0)
          (loaded harg2 (Rect.unit (s := S4096x16) ![2944, 0] S512x16.size inb_S4096x16_S512x16_2944_0) x0)
          (loaded harg2 (Rect.unit (s := S4096x16) ![3456, 0] S512x16.size inb_S4096x16_S512x16_3456_0) x0)
          (loaded harg2 (Rect.unit (s := S4096x16) ![3968, 0] S128x16.size inb_S4096x16_S128x16_3968_0) x0)
          (trunk (body_run.sl.v15 c arg10 fx) (loaded harg3 (Rect.unit (s := S256x256) ![0, 0] S256x256.size inb_S256x256_S256x256_0_0) x1))
          (loaded harg4 (Rect.unit (s := S16x256) ![0, 0] S16x256.size inb_S16x256_S16x256_0_0) x2)
          (subf (loaded harg5 (Rect.unit (s := S256x2) ![0, 1] S256x1.size inb_S256x2_S256x1_0_1) x3)
            (loaded harg5 (Rect.unit (s := S256x2) ![0, 0] S256x1.size inb_S256x2_S256x1_0_0) x3))
          (Scalar.subf (only (loaded harg6 (Rect.unit (s := S1x2) ![0, 1] S1x1.size inb_S1x2_S1x1_0_1) x4))
            (only (loaded harg6 (Rect.unit (s := S1x2) ![0, 0] S1x1.size inb_S1x2_S1x1_0_0) x4))))
        (loaded harg7 (Rect.unit (s := S1x6) ![0, 0] S1x1.size inb_S1x6_S1x1_0_0) x5)
        (loaded harg7 (Rect.unit (s := S1x6) ![0, 1] S1x1.size inb_S1x6_S1x1_0_1) x5)
        (loaded harg7 (Rect.unit (s := S1x6) ![0, 2] S1x1.size inb_S1x6_S1x1_0_2) x5)
        (loaded harg7 (Rect.unit (s := S1x6) ![0, 3] S1x1.size inb_S1x6_S1x1_0_3) x5)
        (loaded harg7 (Rect.unit (s := S1x6) ![0, 4] S1x1.size inb_S1x6_S1x1_0_4) x5)
        (loaded harg7 (Rect.unit (s := S1x6) ![0, 5] S1x1.size inb_S1x6_S1x1_0_5) x5)
        (loaded harg8 (Rect.unit (s := S1x1) ![0, 0] S1x1.size inb_S1x1_S1x1_0_0) x6)) ?_ ?_
    · rfl
    · rw [ex, e0, e1, e2, e3, e4, e5, e6, e7, e8, e9]
      rw [loaded_full harg3, loaded_full harg4, loaded_full harg8]
      simp only [loaded_eq_cut]
      rfl
  isplitl [HS0]
  · iexists _, _; isplitr; swap; · iexact HS0
    ipureintro; rfl
  isplitl [HS1]
  · iexists _, _; isplitr; swap; · iexact HS1
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  iexists _; iexact HW

end Cert.OnBits

end
-- ==== Proof.Launch.lean ====
/- The launch of the idealized kernel: the region around which the host's lines stand, the memrefs its body is
   handed, and what the body holds of its own — two scratch buffers, four transfer semaphores, and the two arrays
   left in HBM that it copies from. -/
module

public import proofs.«01_k».proof.Proof.Gen.KernelIdeal.Frame

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

/-- Machine states with the pipeline library's ghost state and the counters of the body's own transfers. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main is the lines before the region, the region, and the lines after it. -/
theorem main_around (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## What the body holds of its own -/

/-- The scratch that receives the node features. -/
abbrev xBuf : Memref sig .tc .vmem S4096x256 .f32 := Memref.whole cc0_scratch0
/-- The scratch ring of three slots that receives the row blocks of the adjacency matrix. -/
abbrev ring : Memref sig .tc .vmem S3x512x4096 .f32 := Memref.whole cc0_scratch1
/-- The node features, left in HBM. -/
abbrev xHbm : Memref sig .tc .hbm S4096x256 .f32 := Memref.whole main_arg0
/-- The adjacency matrix, left in HBM. -/
abbrev adjHbm : Memref sig .tc .hbm S4096x4096 .f32 := Memref.whole main_arg1

/-- The contents of memref `M`'s buffer on core `c`. -/
abbrev BufOf (c : Dev nD) {sp : Space} {S : Shape} {e : EltTy} (M : Memref sig .tc sp S e) : Type :=
  Buf (Elt F) (M.view.loc (c : Thread nD τ))
/-- Memref `M`'s buffer held whole on core `c`, at the contents `f`. -/
abbrev holds (c : Dev nD) {sp : Space} {S : Shape} {e : EltTy} (M : Memref sig .tc sp S e) (f : BufOf (F := F) c M) : sProp 𝕄 :=
  M.view.loc (c : Thread nD τ) ↦{fullShare} f

/-- The four semaphores of the body's transfers: one per ring slot, and one for the node features. -/
abbrev ownSem : Fin 4 → SemLoc sig := fun j => (![SemLoc.dma 8, SemLoc.dma 9, SemLoc.dma 10, SemLoc.dma 11] : Fin 4 → SemLoc sig) j
/-- None of them is a window's. -/
theorem ownSem_facts : Pipeline.OwnSemFacts spec0 ownSem := by decide

/-- The four semaphores at zero, one by one. -/
theorem ownSem_list (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) := by
  rw [Pipeline.ownSems0_eq_of_list c ownSem [0, 1, 2, 3] (by decide) (by decide)]; rfl

/-- The arrays left in HBM. -/
def left : Finset (Ref sig .tc) := {main_arg0, main_arg1}
theorem left_sub : left ⊆ Pipeline.restRefs sig spec0 := by decide

/-- The two arrays at the contents the region finds, one by one. -/
theorem left_list (c : Dev nD) :
    (bigSep left (fun b => ((c : Thread nD τ).loc b) ↦{fullShare} V m c b) : sProp 𝕄)
      = iprop(holds c xHbm (V m c main_arg0) ∗ holds c adjHbm (V m c main_arg1)) := by
  rw [BI.bigSep_eq_bigSepL_of_eq [main_arg0, main_arg1] (by decide) (by decide)]; rfl

/-- The lines after the region do not touch the arrays left in HBM. -/
theorem tail_sub : ∀ ops ∈ ([hostOps1] : List (List (HloOp τ sig (Elt F)))), ∀ op ∈ ops,
    op.bufs ⊆ Pipeline.tailRefsBut sig Pipeline.Prefetch.none spec0 left := by
  intro ops hops op hop
  obtain rfl := List.mem_singleton.mp hops
  refine Pipeline.sub_tailRefsBut Pipeline.Prefetch.none spec0 left op
    ((List.forall_iff_forall_mem.mp hostOps1_sub) op hop) (fun j => j.elim0) ?_
  simp only [hostOps1, List.mem_cons, List.mem_nil_iff, or_false] at hop
  obtain rfl := hop
  intro b hb
  simp only [left, Finset.mem_insert, Finset.mem_singleton] at hb
  rcases hb with rfl | rfl <;>
    simp only [StableHlo.reshape_bufs, Finset.mem_insert, Finset.mem_singleton, not_or] <;>
    and_intros <;> exact StableHlo.devRef_ne_of_ne (by decide)

/-- What stays in the body's hand between points: its scratch at some contents, the generator's register, its
    semaphores at zero, and the arrays left in HBM as launched. -/
theorem inv_list (c : Dev nD) :
    (Pipeline.ΦD ownSem spec0 left (V m) c : sProp 𝕄)
      = iprop(iprop((∃ d, owns (c : Thread nD τ) xBuf fullShare d) ∗ (∃ d, owns (c : Thread nD τ) ring fullShare d))
          ∗ (∃ r, prngReg c r)
          ∗ iprop(semVal ((c : Thread nD τ), SemLoc.dma 8) 0 ∗ semVal ((c : Thread nD τ), SemLoc.dma 9) 0
              ∗ semVal ((c : Thread nD τ), SemLoc.dma 10) 0 ∗ semVal ((c : Thread nD τ), SemLoc.dma 11) 0)
          ∗ iprop(holds c xHbm (V m c main_arg0) ∗ holds c adjHbm (V m c main_arg1))) := by
  rw [Pipeline.ΦD_eq, scopedRest0_eq, ownSem_list, left_list]; simp only [xBuf, ring, owns_whole]; try rfl

end Cert.Hand

end
-- ==== Proof.KernelValue.lean ====
module

public import proofs.«01_k».proof.Proof.Launch

@[expose] public section

set_option maxRecDepth 16384

noncomputable section

/-! What one run of the kernel's body computes, as pure functions of the operands. -/

namespace Cert.Hand

open Idealize.ShloMosaic
open Cert.KernelIdeal Cert.KernelIdeal.Gen

variable {F : FTy → Type} [FloatOps F] [Named F]

/-- The part of an array a rectangle selects. -/
def cut {α : Type} {s : Shape} (r : Rect s) (x : s.Idx → α) : r.shape.Idx → α := fun i => x (r.emb i)

/-- A block of the hidden layer's scores: the block's rows of the adjacency times the trunk, plus its local features
    times their weights, rectified, then dotted with the difference of the two output columns and shifted by the
    difference of the two output biases. -/
def block (R : ℕ) (a : FVec F ⟨2, ![R, 4096]⟩ .f32) (u : FVec F S4096x256 .f32) (l : FVec F ⟨2, ![R, 16]⟩ .f32)
    (wl : FVec F S16x256 .f32) (w : FVec F S256x1 .f32) (b : F .f32) : FVec F ⟨2, ![R, 1]⟩ .f32 :=
  addf (matmul (DotDims.plain R 256 1) none
      (maximumf (addf (matmul (DotDims.plain R 4096 256) none a u (constant _ .f32 0x00000000#32))
          (matmul (DotDims.plain R 16 256) none l wl (constant _ .f32 0x00000000#32)))
        (broadcast _ (Scalar.ofBits .f32 0x00000000#32)))
      w (constant _ .f32 0x00000000#32)) (broadcast _ b)

/-- The trunk: all nodes' features times the first weights. -/
def trunk (x : FVec F S4096x256 .f32) (w1 : FVec F S256x256 .f32) : FVec F S4096x256 .f32 :=
  matmul dot_S4096x256_S256x256_S4096x256_1_0_0_1_n_n none x w1 (constant S4096x256 .f32 0x00000000#32)

/-- A block's rows of the local features, at a row offset. -/
def localAt (R off : ℕ) (h : ∀ a : Fin 2, (![off, 0] : Fin 2 → ℕ) a + (⟨2, ![R, 16]⟩ : Shape).size a ≤ S4096x16.size a)
    (l : FVec F S4096x16 .f32) : FVec F ⟨2, ![R, 16]⟩ .f32 :=
  cut (Rect.unit (s := S4096x16) ![off, 0] (⟨2, ![R, 16]⟩ : Shape).size h) l

/-- A block's rows of the adjacency, at a row offset. -/
def adjAt (R off : ℕ) (h : ∀ a : Fin 2, (![off, 0] : Fin 2 → ℕ) a + (⟨2, ![R, 4096]⟩ : Shape).size a ≤ S4096x4096.size a)
    (adj : FVec F S4096x4096 .f32) : FVec F ⟨2, ![R, 4096]⟩ .f32 :=
  cut (Rect.unit (s := S4096x4096) ![off, 0] (⟨2, ![R, 4096]⟩ : Shape).size h) adj

/-- The scores of the first 2048 rows, sixteen lines of 128, from the five row blocks of the adjacency and of the
    local features. -/
def scoresA (a0 : FVec F S128x4096 .f32) (a1 a2 a3 : FVec F S512x4096 .f32) (a4 : FVec F S384x4096 .f32)
    (l0 : FVec F S128x16 .f32) (l1 l2 l3 : FVec F S512x16 .f32) (l4 : FVec F S384x16 .f32)
    (u : FVec F S4096x256 .f32) (wl : FVec F S16x256 .f32) (w : FVec F S256x1 .f32) (b : F .f32) : FVec F S16x128 .f32 :=
  concatenate S16x128 0
    [⟨S1x128, shapeCast S1x128 (block 128 a0 u l0 wl w b) shapeCasts_S128x1_S1x128⟩,
     ⟨S4x128, shapeCast S4x128 (block 512 a1 u l1 wl w b) shapeCasts_S512x1_S4x128⟩,
     ⟨S4x128, shapeCast S4x128 (block 512 a2 u l2 wl w b) shapeCasts_S512x1_S4x128⟩,
     ⟨S4x128, shapeCast S4x128 (block 512 a3 u l3 wl w b) shapeCasts_S512x1_S4x128⟩,
     ⟨S3x128, shapeCast S3x128 (block 384 a4 u l4 wl w b) shapeCasts_S384x1_S3x128⟩]
    concatenates_S1x128_S4x128_S4x128_S4x128_S3x128_S16x128_d0

/-- The scores of the last 2048 rows, sixteen lines of 128, from the five row blocks of the adjacency and of the
    local features. -/
def scoresB (a0 : FVec F S384x4096 .f32) (a1 a2 a3 : FVec F S512x4096 .f32) (a4 : FVec F S128x4096 .f32)
    (l0 : FVec F S384x16 .f32) (l1 l2 l3 : FVec F S512x16 .f32) (l4 : FVec F S128x16 .f32)
    (u : FVec F S4096x256 .f32) (wl : FVec F S16x256 .f32) (w : FVec F S256x1 .f32) (b : F .f32) : FVec F S16x128 .f32 :=
  concatenate S16x128 0
    [⟨S3x128, shapeCast S3x128 (block 384 a0 u l0 wl w b) shapeCasts_S384x1_S3x128⟩,
     ⟨S4x128, shapeCast S4x128 (block 512 a1 u l1 wl w b) shapeCasts_S512x1_S4x128⟩,
     ⟨S4x128, shapeCast S4x128 (block 512 a2 u l2 wl w b) shapeCasts_S512x1_S4x128⟩,
     ⟨S4x128, shapeCast S4x128 (block 512 a3 u l3 wl w b) shapeCasts_S512x1_S4x128⟩,
     ⟨S1x128, shapeCast S1x128 (block 128 a4 u l4 wl w b) shapeCasts_S128x1_S1x128⟩]
    concatenates_S3x128_S4x128_S4x128_S4x128_S1x128_S16x128_d0

/-- Each entry's position in reading order. -/
def flat : IVec S16x128 32 :=
  addi (muli (iota .tc S16x128 32 [0] iota_S16x128_d0_w32) (broadcast S16x128 128#32))
    (iota .tc S16x128 32 [1] iota_S16x128_d1_w32)

/-- The largest entry. -/
def peak (x : FVec F S16x128 .f32) : F .f32 :=
  extractAt ![0, 0, 0] (shapeCast S1x1x1 (multiReduction .maximumf [1, 2] S1
    (shapeCast S1x16x128 x shapeCasts_S16x128_S1x16x128) 0xFF800000#32 reduces_S1x16x128_S1 (.inl rfl) rfl)
    shapeCasts_S1_S1x1x1) inpos_S1x1x1_p0_0_0

/-- The first position whose entry is `p`. -/
def place (x : FVec F S16x128 .f32) (p : F .f32) : BitVec 32 :=
  extractAt ![0, 0, 0] (shapeCast S1x1x1 (multiReductionI .minsi [1, 2] S1
    (shapeCast S1x16x128 (select (cmpf .oeq x (broadcast S16x128 p)) flat (broadcast S16x128 1073741824#32))
      shapeCasts_S16x128_S1x16x128) 2147483647#32 reduces_S1x16x128_S1 rfl)
    shapeCasts_S1_S1x1x1) inpos_S1x1x1_p0_0_0

/-- The entries with the one at position `q` replaced by minus infinity. -/
def strike (x : FVec F S16x128 .f32) (q : BitVec 32) : FVec F S16x128 .f32 :=
  select (cmpi .eq flat (broadcast S16x128 q)) (broadcast S16x128 (Scalar.ofBits .f32 0xFF800000#32)) x

/-- What remains after removing the largest entry `n` times. -/
def rest (x : FVec F S16x128 .f32) : ℕ → FVec F S16x128 .f32
  | 0 => x
  | n + 1 => strike (rest x n) (place (rest x n) (peak (rest x n)))

/-- The sum of the first `n` largest entries, added in order from zero. -/
def topSum (x : FVec F S16x128 .f32) : ℕ → F .f32
  | 0 => Scalar.ofBits .f32 0x00000000#32
  | n + 1 => Scalar.addf (topSum x n) (peak (rest x n))

/-- The largest of the first `n` largest entries, taken in order from minus infinity. -/
def topMax (x : FVec F S16x128 .f32) : ℕ → F .f32
  | 0 => Scalar.ofBits .f32 0xFF800000#32
  | n + 1 => Scalar.maximumf (topMax x n) (peak (rest x n))

/-- The sum of all entries. -/
def total (x : FVec F S16x128 .f32) : F .f32 :=
  extractAt ![0, 0, 0] (shapeCast S1x1x1 (multiReduction .add [1, 2] S1
    (shapeCast S1x16x128 x shapeCasts_S16x128_S1x16x128) 0x00000000#32 reduces_S1x16x128_S1 (.inl rfl) rfl)
    shapeCasts_S1_S1x1x1) inpos_S1x1x1_p0_0_0

/-- The one number of a one by one array. -/
def only (x : FVec F S1x1 .f32) : F .f32 := extractAt ![0, 0] x inpos_S1x1_p0_0

/-- The combination of both halves' mean, maximum and mean of the twenty largest. -/
def combine (suma mxa topa sumb mxb topb c0 c1 c2 c3 c4 c5 c6 : F .f32) : F .f32 :=
  Scalar.addf (Scalar.addf (Scalar.addf (Scalar.addf (Scalar.addf (Scalar.addf
    (Scalar.mulf (Scalar.mulf suma (Scalar.ofBits .f32 0x3A000000#32)) c0)
    (Scalar.mulf mxa c1))
    (Scalar.mulf (Scalar.mulf topa (Named.named κ "inv_k" 0x3D4CCCCD#32)) c2))
    (Scalar.mulf (Scalar.mulf sumb (Scalar.ofBits .f32 0x3A000000#32)) c3))
    (Scalar.mulf mxb c4))
    (Scalar.mulf (Scalar.mulf topb (Named.named κ "inv_k" 0x3D4CCCCD#32)) c5))
    c6

/-- The body's result from both halves' scores, the six combining weights and the last bias. -/
def finish (sa sb : FVec F S16x128 .f32) (c0 c1 c2 c3 c4 c5 c6 : FVec F S1x1 .f32) : FVec F S1x1 .f32 :=
  broadcast S1x1 (combine (total sa) (topMax sa 20) (topSum sa 20) (total sb) (topMax sb 20) (topSum sb 20)
    (only c0) (only c1) (only c2) (only c3) (only c4) (only c5) (only c6))

/-- The difference of the two columns of the second weights. -/
def wdiff (w2 : FVec F S256x2 .f32) : FVec F S256x1 .f32 :=
  subf (cut (Rect.unit (s := S256x2) ![0, 1] S256x1.size inb_S256x2_S256x1_0_1) w2)
    (cut (Rect.unit (s := S256x2) ![0, 0] S256x1.size inb_S256x2_S256x1_0_0) w2)

/-- The difference of the two output biases. -/
def bdiff (b2 : FVec F S1x2 .f32) : F .f32 :=
  Scalar.subf (only (cut (Rect.unit (s := S1x2) ![0, 1] S1x1.size inb_S1x2_S1x1_0_1) b2))
    (only (cut (Rect.unit (s := S1x2) ![0, 0] S1x1.size inb_S1x2_S1x1_0_0) b2))

/-- One combining weight. -/
def weightAt (k : ℕ) (h : ∀ a : Fin 2, (![0, k] : Fin 2 → ℕ) a + S1x1.size a ≤ S1x6.size a) (x5 : FVec F S1x6 .f32) :
    FVec F S1x1 .f32 := cut (Rect.unit (s := S1x6) ![0, k] S1x1.size h) x5

/-- The scores of the first 2048 rows from the operands. -/
def halfA (fx : FVec F S4096x256 .f32) (fa : FVec F S4096x4096 .f32) (x0 : FVec F S4096x16 .f32)
    (x1 : FVec F S256x256 .f32) (x2 : FVec F S16x256 .f32) (x3 : FVec F S256x2 .f32) (x4 : FVec F S1x2 .f32) :
    FVec F S16x128 .f32 :=
  scoresA (adjAt 128 0 inb_S4096x4096_S128x4096_0_0 fa) (adjAt 512 128 inb_S4096x4096_S512x4096_128_0 fa)
    (adjAt 512 640 inb_S4096x4096_S512x4096_640_0 fa) (adjAt 512 1152 inb_S4096x4096_S512x4096_1152_0 fa)
    (adjAt 384 1664 inb_S4096x4096_S384x4096_1664_0 fa)
    (localAt 128 0 inb_S4096x16_S128x16_0_0 x0) (localAt 512 128 inb_S4096x16_S512x16_128_0 x0)
    (localAt 512 640 inb_S4096x16_S512x16_640_0 x0) (localAt 512 1152 inb_S4096x16_S512x16_1152_0 x0)
    (localAt 384 1664 inb_S4096x16_S384x16_1664_0 x0)
    (trunk fx x1) x2 (wdiff x3) (bdiff x4)

/-- The scores of the last 2048 rows from the operands. -/
def halfB (fx : FVec F S4096x256 .f32) (fa : FVec F S4096x4096 .f32) (x0 : FVec F S4096x16 .f32)
    (x1 : FVec F S256x256 .f32) (x2 : FVec F S16x256 .f32) (x3 : FVec F S256x2 .f32) (x4 : FVec F S1x2 .f32) :
    FVec F S16x128 .f32 :=
  scoresB (adjAt 384 2048 inb_S4096x4096_S384x4096_2048_0 fa)
    (adjAt 512 2432 inb_S4096x4096_S512x4096_2432_0 fa) (adjAt 512 2944 inb_S4096x4096_S512x4096_2944_0 fa)
    (adjAt 512 3456 inb_S4096x4096_S512x4096_3456_0 fa) (adjAt 128 3968 inb_S4096x4096_S128x4096_3968_0 fa)
    (localAt 384 2048 inb_S4096x16_S384x16_2048_0 x0)
    (localAt 512 2432 inb_S4096x16_S512x16_2432_0 x0) (localAt 512 2944 inb_S4096x16_S512x16_2944_0 x0)
    (localAt 512 3456 inb_S4096x16_S512x16_3456_0 x0) (localAt 128 3968 inb_S4096x16_S128x16_3968_0 x0)
    (trunk fx x1) x2 (wdiff x3) (bdiff x4)

/-- The body's result from its operands: features, adjacency, local features, and the weights and biases. -/
def kernelOut (fx : FVec F S4096x256 .f32) (fa : FVec F S4096x4096 .f32) (x0 : FVec F S4096x16 .f32)
    (x1 : FVec F S256x256 .f32) (x2 : FVec F S16x256 .f32) (x3 : FVec F S256x2 .f32) (x4 : FVec F S1x2 .f32)
    (x5 : FVec F S1x6 .f32) (x6 : FVec F S1x1 .f32) : FVec F S1x1 .f32 :=
  finish (halfA fx fa x0 x1 x2 x3 x4) (halfB fx fa x0 x1 x2 x3 x4)
    (weightAt 0 inb_S1x6_S1x1_0_0 x5) (weightAt 1 inb_S1x6_S1x1_0_1 x5) (weightAt 2 inb_S1x6_S1x1_0_2 x5)
    (weightAt 3 inb_S1x6_S1x1_0_3 x5) (weightAt 4 inb_S1x6_S1x1_0_4 x5) (weightAt 5 inb_S1x6_S1x1_0_5 x5) x6

end Cert.Hand

end
-- ==== Proof.Slots.lean ====
module

public import proofs.«01_k».proof.Proof.KernelValue
public import Idealize.ShloMosaic.Lib.ViewIndex
public import Idealize.ShloMosaic.Lib.VecWindow

@[expose] public section

noncomputable section

/-! What a load returns: from an untouched operand, and from the ring of copied row blocks. -/

namespace Cert.Hand

open Idealize.ShloMosaic

variable {sig : RefSig} {κ : Kind} {Val : EltTy → Type} {sp : Space} {s s' : Shape} {e : EltTy}

/-- A load from a whole operand holding `x`. -/
def loaded {m : Memref sig κ sp s e} (hm : m.IsWhole) (r : Rect s) (x : s.Idx → Val e) : r.shape.Idx → Val e :=
  m.view.readAt Val r.toLoadRect (hm.unread x)

/-- It returns the part of the contents the rectangle selects. -/
theorem loaded_eq_cut {m : Memref sig κ sp s e} (hm : m.IsWhole) (r : Rect s) (x : s.Idx → Val e) :
    loaded hm r x = cut r x := by
  funext i
  unfold loaded
  rw [View.readAt_apply, hm.read_unread]; rfl

/-- A load of a whole array's own sizes returns its contents. -/
theorem loaded_full {m : Memref sig κ sp s e} (hm : m.IsWhole) {off : Fin s.rank → ℕ}
    (inb : ∀ a, off a + s.size a ≤ s.size a) (x : s.Idx → Val e) :
    loaded hm (Rect.unit off s.size inb) x = x := by
  unfold loaded
  rw [View.readAt_full, hm.read_unread]

/-- Loading the rectangle a re-shaped copy has just filled returns the copied data. -/
theorem slot_same (v : View sig κ sp s e) (r : Rect s) (h : s'.numel = r.shape.numel) (hc : r.shape.ShapeCasts s')
    (f : v.ty.Contents Val) (w : s'.Idx → Val e) :
    shapeCast s' (v.readAt Val r.toLoadRect (((v.slice r).reshape s' h).write Val f w Finset.univ)) hc = w :=
  funext fun x => View.read_write_reshape (v.slice r) h f w x

/-- A copy into a disjoint rectangle does not change what a load returns. -/
theorem slot_other (v : View sig κ sp s e) (r r' : Rect s) (h : s'.numel = r'.shape.numel) (hd : Disjoint r.set r'.set)
    (f : v.ty.Contents Val) (w : s'.Idx → Val e) :
    v.readAt Val r.toLoadRect (((v.slice r').reshape s' h).write Val f w Finset.univ) = v.readAt Val r.toLoadRect f := by
  have hd' : Disjoint (v.slice r).set (v.slice r').set := View.disjoint_slice hd
  rw [View.readAt_rect, View.readAt_rect]
  refine View.read_congr fun i hi => View.write_of_not_mem _ _ _ ?_
  rw [View.setOn_univ, View.set_reshape]
  exact fun hi' => Finset.disjoint_left.mp hd' hi hi'

/-- Loading a slot after it was filled and one other slot was filled later returns the slot's data. -/
theorem slot_one {s₁ : Shape} (v : View sig κ sp s e) (r r₁ : Rect s) (h : s'.numel = r.shape.numel)
    (h₁ : s₁.numel = r₁.shape.numel) (hc : r.shape.ShapeCasts s') (hd₁ : Disjoint r.set r₁.set)
    (f : v.ty.Contents Val) (w : s'.Idx → Val e) (w₁ : s₁.Idx → Val e) :
    shapeCast s' (v.readAt Val r.toLoadRect (((v.slice r₁).reshape s₁ h₁).write Val
      (((v.slice r).reshape s' h).write Val f w Finset.univ) w₁ Finset.univ)) hc = w := by
  rw [slot_other v r r₁ h₁ hd₁, slot_same]

/-- Loading a slot after it was filled and two other slots were filled later returns the slot's data. -/
theorem slot_two {s₁ s₂ : Shape} (v : View sig κ sp s e) (r r₁ r₂ : Rect s) (h : s'.numel = r.shape.numel)
    (h₁ : s₁.numel = r₁.shape.numel) (h₂ : s₂.numel = r₂.shape.numel) (hc : r.shape.ShapeCasts s')
    (hd₁ : Disjoint r.set r₁.set) (hd₂ : Disjoint r.set r₂.set)
    (f : v.ty.Contents Val) (w : s'.Idx → Val e) (w₁ : s₁.Idx → Val e) (w₂ : s₂.Idx → Val e) :
    shapeCast s' (v.readAt Val r.toLoadRect (((v.slice r₂).reshape s₂ h₂).write Val
      (((v.slice r₁).reshape s₁ h₁).write Val (((v.slice r).reshape s' h).write Val f w Finset.univ) w₁ Finset.univ)
      w₂ Finset.univ)) hc = w := by
  rw [slot_other v r r₂ h₂ hd₂, slot_one v r r₁ h h₁ hc hd₁]

end Cert.Hand

end
-- ==== Proof.Body.lean ====
module

public import proofs.«01_k».proof.Proof.Launch
public import proofs.«01_k».proof.Proof.Slots
public import proofs.«01_k».proof.Proof.Gen.KernelIdeal.Skeleton

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (Pipeline.UD sig nD τ) ℕ

set_option maxHeartbeats 2000000 in
set_option sl_exec.dmaWindow true in
set_option sl_exec.dmaWindowSet true in
theorem body_run (c : Dev nD)
    (arg2 : Memref sig .tc .vmem S4096x16 .f32) (harg2 : arg2.IsWhole)
    (arg3 : Memref sig .tc .vmem S256x256 .f32) (harg3 : arg3.IsWhole)
    (arg4 : Memref sig .tc .vmem S16x256 .f32) (harg4 : arg4.IsWhole)
    (arg5 : Memref sig .tc .vmem S256x2 .f32) (harg5 : arg5.IsWhole)
    (arg6 : Memref sig .tc .vmem S1x2 .f32) (harg6 : arg6.IsWhole)
    (arg7 : Memref sig .tc .vmem S1x6 .f32) (harg7 : arg7.IsWhole)
    (arg8 : Memref sig .tc .vmem S1x1 .f32) (harg8 : arg8.IsWhole)
    (arg9 : Memref sig .tc .vmem S1x1 .f32) (harg9 : arg9.IsWhole)
    (arg10 : Memref sig .tc .vmem S4096x256 .f32) (harg10 : arg10.IsWhole)
    (arg11 : Memref sig .tc .vmem S3x512x4096 .f32) (harg11 : arg11.IsWhole)
    (x0 : Vec F S4096x16 .f32) (x1 : Vec F S256x256 .f32) (x2 : Vec F S16x256 .f32) (x3 : Vec F S256x2 .f32)
    (x4 : Vec F S1x2 .f32) (x5 : Vec F S1x6 .f32) (x6 : Vec F S1x1 .f32)
    (fx : BufOf (F := F) c xHbm) (fa : BufOf (F := F) c adjHbm) :
    ∀ (W : Waits sig Unit) (K : PUnit → sProp 𝕄),
      iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare x6 ∗ (∃ d, owns (c : Thread nD τ) arg9 fullShare d)
          ∗ (∃ d, owns (c : Thread nD τ) arg10 fullShare d) ∗ (∃ d, owns (c : Thread nD τ) arg11 fullShare d)
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0
          ∗ holds c xHbm fx ∗ holds c adjHbm fa ∗ owes (c : Thread nD τ) 0 W
          ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4 ∗ owns (c : Thread nD τ) arg7 fullShare x5
              ∗ owns (c : Thread nD τ) arg8 fullShare x6 ∗ owns (c : Thread nD τ) arg9 fullShare (kernelOut fx fa x0 x1 x2 x3 x4 x5 x6)
              ∗ (∃ d, owns (c : Thread nD τ) arg10 fullShare d) ∗ (∃ d, owns (c : Thread nD τ) arg11 fullShare d)
              ∗ semVal ((c : Thread nD τ), SemLoc.dma 8) 0 ∗ semVal ((c : Thread nD τ), SemLoc.dma 9) 0
              ∗ semVal ((c : Thread nD τ), SemLoc.dma 10) 0 ∗ semVal ((c : Thread nD τ), SemLoc.dma 11) 0
              ∗ holds c xHbm fx ∗ holds c adjHbm fa ∗ (∃ W', owes (c : Thread nD τ) 0 W')) -∗ K ⟨⟩))
        ⊢ wp frame (wpE (defs₀ (F := F)) Variants.none c none) Set.univ
            (cc0__fused_kernel (Memref.whole main_arg0) (Memref.isWhole_whole _) (Memref.whole main_arg1)
              (Memref.isWhole_whole _) arg2 harg2 arg3 harg3 arg4 harg4 arg5 harg5 arg6 harg6 arg7 harg7 arg8 harg8
              arg9 harg9 arg10 harg10 arg11 harg11 cc0_scratch2 cc0_scratch3) K := by
  intro W K
  simp only [cc0__fused_kernel_eq_skeleton]; unfold cc0__fused_kernel_skel
  simp only [k0_part24_eq_skeleton, k0_part1_eq_skeleton, k0_part2_eq_skeleton, k0_part3_eq_skeleton,
    k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton,
    k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, ⟨%ds0, %fs0, -, HS0⟩, ⟨%ds1, %fs1, -, HS1⟩, Hq0, Hq1, Hq2, Hq3, Hh0, Hh1, HW, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_full]
    have ex : body_run.sl.v15 c arg10 fx = fx := View.readCov_full ..
    have e0 : body_run.sl.v32 c arg11 fa fs1 = adjAt 128 0 inb_S4096x4096_S128x4096_0_0 fa :=
      slot_two _ _ _ _ _ _ _ _ (Rect.unit_disjoint 0 (by decide)) (Rect.unit_disjoint 0 (by decide)) _ _ _ _
    have e1 : body_run.sl.v55 c arg11 fa fs1 = adjAt 512 128 inb_S4096x4096_S512x4096_128_0 fa :=
      slot_two _ _ _ _ _ _ _ _ (Rect.unit_disjoint 0 (by decide)) (Rect.unit_disjoint 0 (by decide)) _ _ _ _
    have e2 : body_run.sl.v78 c arg11 fa fs1 = adjAt 512 640 inb_S4096x4096_S512x4096_640_0 fa :=
      slot_two _ _ _ _ _ _ _ _ (Rect.unit_disjoint 0 (by decide)) (Rect.unit_disjoint 0 (by decide)) _ _ _ _
    have e3 : body_run.sl.v101 c arg11 fa fs1 = adjAt 512 1152 inb_S4096x4096_S512x4096_1152_0 fa :=
      slot_two _ _ _ _ _ _ _ _ (Rect.unit_disjoint 0 (by decide)) (Rect.unit_disjoint 0 (by decide)) _ _ _ _
    have e4 : body_run.sl.v124 c arg11 fa fs1 = adjAt 384 1664 inb_S4096x4096_S384x4096_1664_0 fa :=
      slot_two _ _ _ _ _ _ _ _ (Rect.unit_disjoint 0 (by decide)) (Rect.unit_disjoint 0 (by decide)) _ _ _ _
    have e5 : body_run.sl.v505 c arg11 fa fs1 = adjAt 384 2048 inb_S4096x4096_S384x4096_2048_0 fa :=
      slot_two _ _ _ _ _ _ _ _ (Rect.unit_disjoint 0 (by decide)) (Rect.unit_disjoint 0 (by decide)) _ _ _ _
    have e6 : body_run.sl.v528 c arg11 fa fs1 = adjAt 512 2432 inb_S4096x4096_S512x4096_2432_0 fa :=
      slot_two _ _ _ _ _ _ _ _ (Rect.unit_disjoint 0 (by decide)) (Rect.unit_disjoint 0 (by decide)) _ _ _ _
    have e7 : body_run.sl.v551 c arg11 fa fs1 = adjAt 512 2944 inb_S4096x4096_S512x4096_2944_0 fa :=
      slot_two _ _ _ _ _ _ _ _ (Rect.unit_disjoint 0 (by decide)) (Rect.unit_disjoint 0 (by decide)) _ _ _ _
    have e8 : body_run.sl.v569 c arg11 fa fs1 = adjAt 512 3456 inb_S4096x4096_S512x4096_3456_0 fa :=
      slot_one _ _ _ _ _ _ (Rect.unit_disjoint 0 (by decide)) _ _ _
    have e9 : body_run.sl.v587 c arg11 fa fs1 = adjAt 128 3968 inb_S4096x4096_S128x4096_3968_0 fa :=
      slot_same _ _ _ _ _ _
    refine Eq.trans (b := finish
        (scoresA (body_run.sl.v32 c arg11 fa fs1) (body_run.sl.v55 c arg11 fa fs1) (body_run.sl.v78 c arg11 fa fs1) (body_run.sl.v101 c arg11 fa fs1) (body_run.sl.v124 c arg11 fa fs1)
          (loaded harg2 (Rect.unit (s := S4096x16) ![0, 0] S128x16.size inb_S4096x16_S128x16_0_0) x0)
          (loaded harg2 (Rect.unit (s := S4096x16) ![128, 0] S512x16.size inb_S4096x16_S512x16_128_0) x0)
          (loaded harg2 (Rect.unit (s := S4096x16) ![640, 0] S512x16.size inb_S4096x16_S512x16_640_0) x0)
          (loaded harg2 (Rect.unit (s := S4096x16) ![1152, 0] S512x16.size inb_S4096x16_S512x16_1152_0) x0)
          (loaded harg2 (Rect.unit (s := S4096x16) ![1664, 0] S384x16.size inb_S4096x16_S384x16_1664_0) x0)
          (trunk (body_run.sl.v15 c arg10 fx) (loaded harg3 (Rect.unit (s := S256x256) ![0, 0] S256x256.size inb_S256x256_S256x256_0_0) x1))
          (loaded harg4 (Rect.unit (s := S16x256) ![0, 0] S16x256.size inb_S16x256_S16x256_0_0) x2)
          (subf (loaded harg5 (Rect.unit (s := S256x2) ![0, 1] S256x1.size inb_S256x2_S256x1_0_1) x3)
            (loaded harg5 (Rect.unit (s := S256x2) ![0, 0] S256x1.size inb_S256x2_S256x1_0_0) x3))
          (Scalar.subf (only (loaded harg6 (Rect.unit (s := S1x2) ![0, 1] S1x1.size inb_S1x2_S1x1_0_1) x4))
            (only (loaded harg6 (Rect.unit (s := S1x2) ![0, 0] S1x1.size inb_S1x2_S1x1_0_0) x4))))
        (scoresB (body_run.sl.v505 c arg11 fa fs1) (body_run.sl.v528 c arg11 fa fs1) (body_run.sl.v551 c arg11 fa fs1) (body_run.sl.v569 c arg11 fa fs1) (body_run.sl.v587 c arg11 fa fs1)
          (loaded harg2 (Rect.unit (s := S4096x16) ![2048, 0] S384x16.size inb_S4096x16_S384x16_2048_0) x0)
          (loaded harg2 (Rect.unit (s := S4096x16) ![2432, 0] S512x16.size inb_S4096x16_S512x16_2432_0) x0)
          (loaded harg2 (Rect.unit (s := S4096x16) ![2944, 0] S512x16.size inb_S4096x16_S512x16_2944_0) x0)
          (loaded harg2 (Rect.unit (s := S4096x16) ![3456, 0] S512x16.size inb_S4096x16_S512x16_3456_0) x0)
          (loaded harg2 (Rect.unit (s := S4096x16) ![3968, 0] S128x16.size inb_S4096x16_S128x16_3968_0) x0)
          (trunk (body_run.sl.v15 c arg10 fx) (loaded harg3 (Rect.unit (s := S256x256) ![0, 0] S256x256.size inb_S256x256_S256x256_0_0) x1))
          (loaded harg4 (Rect.unit (s := S16x256) ![0, 0] S16x256.size inb_S16x256_S16x256_0_0) x2)
          (subf (loaded harg5 (Rect.unit (s := S256x2) ![0, 1] S256x1.size inb_S256x2_S256x1_0_1) x3)
            (loaded harg5 (Rect.unit (s := S256x2) ![0, 0] S256x1.size inb_S256x2_S256x1_0_0) x3))
          (Scalar.subf (only (loaded harg6 (Rect.unit (s := S1x2) ![0, 1] S1x1.size inb_S1x2_S1x1_0_1) x4))
            (only (loaded harg6 (Rect.unit (s := S1x2) ![0, 0] S1x1.size inb_S1x2_S1x1_0_0) x4))))
        (loaded harg7 (Rect.unit (s := S1x6) ![0, 0] S1x1.size inb_S1x6_S1x1_0_0) x5)
        (loaded harg7 (Rect.unit (s := S1x6) ![0, 1] S1x1.size inb_S1x6_S1x1_0_1) x5)
        (loaded harg7 (Rect.unit (s := S1x6) ![0, 2] S1x1.size inb_S1x6_S1x1_0_2) x5)
        (loaded harg7 (Rect.unit (s := S1x6) ![0, 3] S1x1.size inb_S1x6_S1x1_0_3) x5)
        (loaded harg7 (Rect.unit (s := S1x6) ![0, 4] S1x1.size inb_S1x6_S1x1_0_4) x5)
        (loaded harg7 (Rect.unit (s := S1x6) ![0, 5] S1x1.size inb_S1x6_S1x1_0_5) x5)
        (loaded harg8 (Rect.unit (s := S1x1) ![0, 0] S1x1.size inb_S1x1_S1x1_0_0) x6)) ?_ ?_
    · rfl
    · rw [ex, e0, e1, e2, e3, e4, e5, e6, e7, e8, e9]
      rw [loaded_full harg3, loaded_full harg4, loaded_full harg8]
      simp only [loaded_eq_cut]
      rfl
  isplitl [HS0]
  · iexists _, _; isplitr; swap; · iexact HS0
    ipureintro; rfl
  isplitl [HS1]
  · iexists _, _; isplitr; swap; · iexact HS1
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  iexists _; iexact HW

end Cert.Hand

end
-- ==== Proof.Run.lean ====
module

public import proofs.«01_k».proof.Proof.Body
public import proofs.«01_k».proof.Proof.Gen.KernelIdeal.Points

@[expose] public section

set_option maxRecDepth 16384

noncomputable section

/-! The kernel's run: the one grid point's blocks, the body applied to them, and what every array holds at the end. -/

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

/-- Machine states with the pipeline library's ghost state and the counters of the body's own transfers. -/
local notation "𝕄" => MT nD τ sig Unit (Elt F) ℕ (Pipeline.UD sig nD τ) ℕ

variable (m : (ℓ : Loc nD τ sig) → Buf (Elt F) ℓ) (ρ : Dev nD → PrngReg)

/-- The body's result at a point, from the blocks it is given and the two arrays left in HBM. -/
def stored (c : Dev nD) (t : Fin cfg0.N) : FVec F S1x1 .f32 :=
  kernelOut (V m c main_arg0) (V m c main_arg1) (iblk m c 0 t) (iblk m c 1 t) (iblk m c 2 t) (iblk m c 3 t) (iblk m c 4 t)
    (iblk m c 5 t) (iblk m c 6 t)

/-- The proof data of the one pipeline: every array as the region finds it, each input's buffer at its block and the
    output's at the body's result, and what the body holds of its own between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => stored m c t
  Φ _ := Pipeline.ΦD ownSem spec0 left (V m) c
  q _ := fullShare
  owed _ := 0

/-- Its arrays are the contents the region finds. -/
theorem A_eq (c : Dev nD) (w : Fin cfg0.W) : (dats m 0 c).A w = V m c (Pipeline.arrRef spec0 w) := by
  dsimp only [dats]

/-- Every input is fetched at the one point, so its buffer holds its block. -/
theorem before_0 (c : Dev nD) (t : Fin cfg0.N) (d) : (dats m 0 c).before 0 t d = iblk m c 0 t := (dats m 0 c).before_fetched 0 t (fetch0_0 t) d
theorem before_1 (c : Dev nD) (t : Fin cfg0.N) (d) : (dats m 0 c).before 1 t d = iblk m c 1 t := (dats m 0 c).before_fetched 1 t (fetch0_1 t) d
theorem before_2 (c : Dev nD) (t : Fin cfg0.N) (d) : (dats m 0 c).before 2 t d = iblk m c 2 t := (dats m 0 c).before_fetched 2 t (fetch0_2 t) d
theorem before_3 (c : Dev nD) (t : Fin cfg0.N) (d) : (dats m 0 c).before 3 t d = iblk m c 3 t := (dats m 0 c).before_fetched 3 t (fetch0_3 t) d
theorem before_4 (c : Dev nD) (t : Fin cfg0.N) (d) : (dats m 0 c).before 4 t d = iblk m c 4 t := (dats m 0 c).before_fetched 4 t (fetch0_4 t) d
theorem before_5 (c : Dev nD) (t : Fin cfg0.N) (d) : (dats m 0 c).before 5 t d = iblk m c 5 t := (dats m 0 c).before_fetched 5 t (fetch0_5 t) d
theorem before_6 (c : Dev nD) (t : Fin cfg0.N) (d) : (dats m 0 c).before 6 t d = iblk m c 6 t := (dats m 0 c).before_fetched 6 t (fetch0_6 t) d

/-- What the body is called with at a point: the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 800000 in
/-- The body at a point: the inputs' buffers hold their blocks, so the body's run applies; what the body holds of its
    own comes back as it was. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl]
  rw [show (dats m 0 c).Φ t.castSucc = Pipeline.ΦD ownSem spec0 left (V m) c from rfl, inv_list]
  unfold Dat.owesAt Pipeline.owesWithin
  rw [show (dats m 0 c).owed t.castSucc = 0 from rfl, show (dats m 0 c).owed t.succ = 0 from rfl]
  iintro ⟨⟨⟨HS0, HS1⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run c _ _ _ _ _ _ _ _ _ _ _ _ _ _ _ _ _ _ _ _ (iblk m c 0 t) (iblk m c 1 t) (iblk m c 2 t) (iblk m c 3 t) (iblk m c 4 t) (iblk m c 5 t) (iblk m c 6 t) (V m c main_arg0) (V m c main_arg1)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [HW]; · iexact HW
  iintro ⟨H0, H1, H2, H3, H4, H5, H6, H7, HS0, HS1, Hq0, Hq1, Hq2, Hq3, Hh0, Hh1, ⟨%W', HW'⟩⟩
  isplitl [HS0 HS1 Hg Hq0 Hq1 Hq2 Hq3 Hh0 Hh1]
  · isplitl [HS0 HS1]
    · isplitl [HS0]; · iexact HS0
      iexact HS1
    isplitl [Hg]
    · iexact Hg
    isplitl [Hq0 Hq1 Hq2 Hq3]
    · isplitl [Hq0]; · iexact Hq0
      isplitl [Hq1]; · iexact Hq1
      isplitl [Hq2]; · iexact Hq2
      iexact Hq3
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body applied to that point's buffers. -/
theorem defs₀_row (t : Fin cfg0.N) :
    defs₀ (F := F) .tc cfg0.body (cfg0.bodyArgs t (cfg0.slots t)) = bodyAt0 t := by
  unfold defs₀; rw [Defs.onTc_tc]

/-- The body does what its proof data say, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: @main ends with every array at what the run writes, every other buffer at what the lines around the
    region leave, and every semaphore at zero. -/
theorem launched : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 ownSem defs₀ Variants.none ownSem_facts left left_sub
    m ρ main (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := main_around m Variants.none) (hA := A_eq m) (hin := fun _ => .rfl) (hout := fun _ => .rfl)

end Cert.Hand

end
-- ==== Proof.Result.lean ====
module

public import proofs.«01_k».proof.Proof.Run
public import Idealize.ShloMosaic.Lib.Pipeline.Value

@[expose] public section

set_option maxRecDepth 16384

noncomputable section

/-! What @main leaves: its result as the body's result on the arguments, and every argument unchanged. -/

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

/-- Machine states with the pipeline library's ghost state and the counters of the body's own transfers. -/
local notation "𝕄" => MT nD τ sig Unit (Elt F) ℕ (Pipeline.UD sig nD τ) ℕ

variable (m : (ℓ : Loc nD τ sig) → Buf (Elt F) ℓ) (ρ : Dev nD → PrngReg)

theorem iblk_0 (c : Dev nD) (t : Fin cfg0.N) : iblk m c 0 t = V m c main_arg2 := by
  funext y
  exact congrArg (V m c main_arg2) (funext fun a => Fin.ext
    ((cfg0.win 0).rect_emb_val_of_index_zero t a (by match a with | ⟨0, _⟩ => rfl | ⟨1, _⟩ => rfl) y))
theorem iblk_1 (c : Dev nD) (t : Fin cfg0.N) : iblk m c 1 t = V m c main_arg3 := by
  funext y
  exact congrArg (V m c main_arg3) (funext fun a => Fin.ext
    ((cfg0.win 1).rect_emb_val_of_index_zero t a (by match a with | ⟨0, _⟩ => rfl | ⟨1, _⟩ => rfl) y))
theorem iblk_2 (c : Dev nD) (t : Fin cfg0.N) : iblk m c 2 t = V m c main_arg4 := by
  funext y
  exact congrArg (V m c main_arg4) (funext fun a => Fin.ext
    ((cfg0.win 2).rect_emb_val_of_index_zero t a (by match a with | ⟨0, _⟩ => rfl | ⟨1, _⟩ => rfl) y))
theorem iblk_3 (c : Dev nD) (t : Fin cfg0.N) : iblk m c 3 t = V m c main_arg5 := by
  funext y
  exact congrArg (V m c main_arg5) (funext fun a => Fin.ext
    ((cfg0.win 3).rect_emb_val_of_index_zero t a (by match a with | ⟨0, _⟩ => rfl | ⟨1, _⟩ => rfl) y))
theorem iblk_4 (c : Dev nD) (t : Fin cfg0.N) : iblk m c 4 t = V m c main_call0_v0 := by
  funext y
  exact congrArg (V m c main_call0_v0) (funext fun a => Fin.ext
    ((cfg0.win 4).rect_emb_val_of_index_zero t a (by match a with | ⟨0, _⟩ => rfl | ⟨1, _⟩ => rfl) y))
theorem iblk_5 (c : Dev nD) (t : Fin cfg0.N) : iblk m c 5 t = V m c main_arg7 := by
  funext y
  exact congrArg (V m c main_arg7) (funext fun a => Fin.ext
    ((cfg0.win 5).rect_emb_val_of_index_zero t a (by match a with | ⟨0, _⟩ => rfl | ⟨1, _⟩ => rfl) y))
theorem iblk_6 (c : Dev nD) (t : Fin cfg0.N) : iblk m c 6 t = V m c main_call0_v1 := by
  funext y
  exact congrArg (V m c main_call0_v1) (funext fun a => Fin.ext
    ((cfg0.win 6).rect_emb_val_of_index_zero t a (by match a with | ⟨0, _⟩ => rfl | ⟨1, _⟩ => rfl) y))

/-- The first bias array in its staged shape. -/
theorem V_v0 (c : Dev nD) : V m c main_call0_v0 = shapeCast S1x2 (m ((c : Thread nD τ).loc main_arg6)) shapeCasts_S2_S1x2 := by
  unfold V V0 hostOps0
  simp only [List.flatten_cons, List.flatten_nil, List.append_nil, List.cons_append, List.nil_append, StableHlo.after_cons, StableHlo.after_nil]
  rw [StableHlo.reshape_result_ne (h := by decide), StableHlo.reshape_result]
  rfl

/-- The second bias array in its staged shape. -/
theorem V_v1 (c : Dev nD) : V m c main_call0_v1 = shapeCast S1x1 (m ((c : Thread nD τ).loc main_arg8)) shapeCasts_S1_S1x1 := by
  unfold V V0 hostOps0
  simp only [List.flatten_cons, List.flatten_nil, List.append_nil, List.cons_append, List.nil_append, StableHlo.after_cons, StableHlo.after_nil]
  rw [StableHlo.reshape_result, StableHlo.reshape_result_ne (h := by decide)]
  rfl

/-- The result array is the body's result. -/
theorem arrAt_7 (c : Dev nD) : (dats m 0 c).arrAt 7 cfg0.N = stored m c t0_0 := by
  have h := (dats m 0 c).read_blk_arrAt_eq_flushed 7 (fun t t' _ _ hne => absurd ((fin_N0 t).trans (fin_N0 t').symm) hne)
    cfg0.N t0_0 t0_0.isLt (flush0_7 _)
  funext i
  refine Eq.trans ?_ (congrFun h i)
  exact congrArg ((dats m 0 c).arrAt 7 cfg0.N) (funext fun a => Fin.ext
    ((cfg0.win 7).rect_emb_val_of_index_zero t0_0 a (by match a with | ⟨0, _⟩ => rfl | ⟨1, _⟩ => rfl) i).symm)

/-- @main's result on a device, from the contents of its arguments. -/
def result (c : Dev nD) : FVec F S1 .f32 :=
  shapeCast S1 (kernelOut (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (shapeCast S1x2 (m ((c : Thread nD τ).loc main_arg6)) shapeCasts_S2_S1x2)
    (m ((c : Thread nD τ).loc main_arg7)) (shapeCast S1x1 (m ((c : Thread nD τ).loc main_arg8)) shapeCasts_S1_S1x1))
    shapeCasts_S1x1_S1

/-- What the body stores, from the contents of @main's arguments. -/
theorem stored_eq (c : Dev nD) (t : Fin cfg0.N) : shapeCast S1 (stored m c t) shapeCasts_S1x1_S1 = result m c := by
  unfold stored result
  rw [iblk_0, iblk_1, iblk_2, iblk_3, iblk_4, iblk_5, iblk_6, V_v0, V_v1, V_main_arg0, V_main_arg1, V_main_arg2, V_main_arg3,
    V_main_arg4, V_main_arg5, V_main_arg7]

/-- The line after the region copies the result array into @main's result. -/
theorem tail_result (c : Dev nD) : Pipeline.afterTail₀ cfgs (dats m) 0 (V0 m) [hostOps1] c main_v0 = result m c := by
  unfold Pipeline.afterTail₀ hostOps1
  simp only [List.flatten_cons, List.flatten_nil, List.append_nil, List.cons_append, List.nil_append, StableHlo.after_cons, StableHlo.after_nil]
  rw [StableHlo.reshape_result, ← stored_eq m c t0_0, ← arrAt_7]
  exact congrArg (fun b => shapeCast S1 b shapeCasts_S1x1_S1)
    (Pipeline.withArrays_arr spec0 winFacts0.arr_inj c (V0 m c) (fun w => (dats m 0 c).arrAt w cfg0.N) 7)

/-- A buffer no window stages and the line after the region does not write ends as the region found it. -/
theorem tail_other (c : Dev nD) (b : Ref sig .tc) (hb : b ≠ main_v0) (hw : ∀ w, Pipeline.arrRef spec0 w ≠ b) :
    Pipeline.afterTail₀ cfgs (dats m) 0 (V0 m) [hostOps1] c b = V m c b := by
  unfold Pipeline.afterTail₀ hostOps1
  simp only [List.flatten_cons, List.flatten_nil, List.append_nil, List.cons_append, List.nil_append, StableHlo.after_cons, StableHlo.after_nil]
  rw [StableHlo.reshape_result_ne (h := hb)]
  exact Pipeline.withArrays_of_ne _ c (V0 m c) _ b hw

/-- The kernel's run: it ends, its result is `result` of its arguments, its arguments are unchanged, and every semaphore
    is at zero. -/
theorem run : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    have rest (b : Ref sig .tc) (hm : b ∈ Pipeline.restRefs sig spec0) (hb : b ≠ main_v0) (hw : ∀ w, Pipeline.arrRef spec0 w ≠ b)
        (hV : V m c b = m ((c : Thread nD τ).loc b)) :
        r.2.mem ((c.tc : Thread nD τ).loc b) = m ((c.tc : Thread nD τ).loc b) := ((h.1 c).2 b hm).trans ((tail_other m c b hb hw).trans hV)
    have staged (w : Fin 8) (hi : (spec0 w).isOut = false) := ((h.1 c).1 w).trans ((dats m 0 c).arrAt_in w hi _)
    ⟨((h.1 c).2 main_v0 (Pipeline.mem_restRefs_of main_v0 (by decide) (by decide))).trans (tail_result m c),
     rest main_arg0 (Pipeline.mem_restRefs_of _ (by decide) (by decide)) (by decide) (by decide) (V_main_arg0 m c),
     rest main_arg1 (Pipeline.mem_restRefs_of _ (by decide) (by decide)) (by decide) (by decide) (V_main_arg1 m c),
     (staged 0 rfl).trans ((A_eq m c 0).trans (V_main_arg2 m c)),
     (staged 1 rfl).trans ((A_eq m c 1).trans (V_main_arg3 m c)),
     (staged 2 rfl).trans ((A_eq m c 2).trans (V_main_arg4 m c)),
     (staged 3 rfl).trans ((A_eq m c 3).trans (V_main_arg5 m c)),
     rest main_arg6 (Pipeline.mem_restRefs_of _ (by decide) (by decide)) (by decide) (by decide) (V_main_arg6 m c),
     (staged 5 rfl).trans ((A_eq m c 5).trans (V_main_arg7 m c)),
     rest main_arg8 (Pipeline.mem_restRefs_of _ (by decide) (by decide)) (by decide) (by decide) (V_main_arg8 m c)⟩, h.2⟩)
    (launched m ρ)

end Cert.Hand

end
-- ==== Proof.TopK.lean ====
module

public import Idealize.ShloMosaic.Lib.ValueIdxCore
public import Idealize.ShloMosaic.Lib.SortFacts
public import Idealize.ShloMosaic.PureOps.Ideal.Laws
public import Mathlib.Data.Finset.Lattice.Fold
public import Mathlib.Data.List.Sort

@[expose] public section

noncomputable section

/-! Taking the largest value out of a finite family again and again gives the values in descending order; a sort's first
    values are those same values. -/

namespace Cert.Hand

open Idealize.ShloMosaic Idealize.ShloMosaic.ValueIdx

section Rounds

variable {ι : Type} [Fintype ι] [DecidableEq ι]

/-- Writing a value at one position takes that position's old value out of the family's values and puts the new one
    in. -/
theorem values_update (x : ι → EReal) (p : ι) (v : EReal) :
    Multiset.map (Function.update x p v) Finset.univ.val = v ::ₘ (Multiset.map x Finset.univ.val).erase (x p) := by
  have hu : (Finset.univ : Finset ι).val = p ::ₘ (Finset.univ.erase p).val := by
    rw [← Finset.insert_val_of_notMem (Finset.notMem_erase p _), Finset.insert_erase (Finset.mem_univ p)]
  rw [hu, Multiset.map_cons, Multiset.map_cons, Function.update_self, Multiset.erase_cons_head]
  congr 1
  refine Multiset.map_congr rfl fun i hi => Function.update_of_ne ?_ _ _
  exact Finset.ne_of_mem_erase hi

/-- The least upper bound of a family whose values are a descending list, then minus infinities, is the list's
    head. -/
theorem sup_of_values (x : ι → EReal) (a : EReal) (l : List EReal) (k : ℕ) (hl : (a :: l).Pairwise (· ≥ ·))
    (hx : Multiset.map x Finset.univ.val = ((a :: l ++ List.replicate k (⊥ : EReal) : List EReal) : Multiset EReal)) : Finset.univ.sup x = a := by
  apply le_antisymm
  · refine Finset.sup_le fun i _ => ?_
    have hm : x i ∈ Multiset.map x Finset.univ.val := Multiset.mem_map_of_mem _ (Finset.mem_univ_val i)
    rw [hx, Multiset.mem_coe, List.mem_append, List.mem_cons] at hm
    rcases hm with (h | h) | h
    · exact h.le
    · exact (List.pairwise_cons.1 hl).1 _ h
    · rw [List.eq_of_mem_replicate h]; exact bot_le
  · have hm : a ∈ Multiset.map x Finset.univ.val := by rw [hx]; simp
    obtain ⟨i, -, rfl⟩ := Multiset.mem_map.1 hm
    exact Finset.le_sup (f := x) (Finset.mem_univ i)

variable (x : ℕ → ι → EReal)
  (hx : ∀ k, ∃ p, x k p = Finset.univ.sup (x k) ∧ x (k + 1) = Function.update (x k) p ⊥)
  (l : List EReal) (hl : l.Pairwise (· ≥ ·)) (h0 : Multiset.map (x 0) Finset.univ.val = ↑l)
include hx hl h0

/-- After `k` rounds of replacing a largest value by minus infinity, the values are the descending list without its
    first `k`, and `k` minus infinities. -/
theorem values_rounds (k : ℕ) (hk : k ≤ l.length) :
    Multiset.map (x k) Finset.univ.val = ((l.drop k ++ List.replicate k (⊥ : EReal) : List EReal) : Multiset EReal) := by
  induction k with
  | zero => simpa using h0
  | succ k ih =>
    have ih := ih (by omega)
    obtain ⟨p, hp, hs⟩ := hx k
    have hd : l.drop k = l[k] :: l.drop (k + 1) := List.drop_eq_getElem_cons (by omega)
    rw [hd] at ih
    have hpk := sup_of_values (x k) _ _ k (hd ▸ hl.sublist (List.drop_sublist k l)) ih
    rw [hs, values_update, ih, hp, hpk]
    simp only [List.cons_append, ← Multiset.cons_coe, Multiset.erase_cons_head]
    rw [Multiset.cons_coe, Multiset.coe_eq_coe, List.replicate_succ]
    exact List.perm_middle.symm

/-- In round `k` the largest value is entry `k` of the descending list. -/
theorem sup_rounds (k : ℕ) (hk : k < l.length) : Finset.univ.sup (x k) = l[k] := by
  have hd : l.drop k = l[k] :: l.drop (k + 1) := List.drop_eq_getElem_cons hk
  have hv := values_rounds x hx l hl h0 k hk.le
  rw [hd] at hv
  exact sup_of_values (x k) _ _ k (hd ▸ hl.sublist (List.drop_sublist k l)) hv

end Rounds

section Sorted

variable {n : ℕ}

/-- The values of a vector in descending order. -/
def descending (y : Fin n → EReal) : List EReal :=
  (sortPositions n fun k k' => decide (y k' < y k)).map y

theorem length_descending (y : Fin n → EReal) : (descending y).length = n := by
  rw [descending, List.length_map, length_sortPositions]

theorem pairwise_descending (y : Fin n → EReal) : (descending y).Pairwise (· ≥ ·) := by
  have h := pairwise_stableSort (fun k k' => decide (y k' < y k)) (fun k k' => decide (y k' < y k))
    (fun a b h => by simp only [decide_eq_true_eq, decide_eq_false_iff_not] at *; exact h.le.not_gt)
    (fun _ _ h => h)
    (fun a b c h h' => by simp only [decide_eq_false_iff_not, not_lt] at *; exact h.trans h') (List.finRange n)
  rw [descending, List.pairwise_map]
  exact h.imp fun h => by simpa using h

theorem values_descending (y : Fin n → EReal) :
    Multiset.map y Finset.univ.val = ↑(descending y) := by
  rw [descending, ← Multiset.map_coe, sortPositions,
    Multiset.coe_eq_coe.2 (perm_stableSort _ (List.finRange n))]
  rfl

/-- The first values of a descending sort of a vector, read at `j`, are the descending list's. -/
theorem topK_apply {m : ℕ} (y : (⟨1, ![n]⟩ : Shape).Idx → EReal)
    (h : (⟨1, ![n]⟩ : Shape).Slices (fun _ => 0) ⟨1, ![m]⟩) (j : Fin m) (hj : j.val < n) :
    (Host.topK (⟨1, ![m]⟩ : Shape) 0 (FloatOps.cmpfTotal (F := Ideal) (φ := .f32) .gt) y h).1 (ix1 j)
      = (descending fun k => y (ix1 k))[j.val]'(by rw [length_descending]; exact hj) := by
  have hal : ∀ (i : (⟨1, ![n]⟩ : Shape).Idx) (k : Fin n), i.along (0 : Fin 1) k = ix1 k := by
    intro i k; funext a
    match a with
    | ⟨0, _⟩ => exact Function.update_self (β := fun a => Fin ((⟨1, ![n]⟩ : Shape).size a)) (0 : Fin 1) k i
  unfold Host.topK Host.sort2 extractStridedSlice
  simp only [descending, List.getElem_map]
  rw [dif_pos (show 0 < 1 from Nat.one_pos)]
  refine (congrArg y (hal _ _)).trans ?_
  congr 2
  simp only [sortedFrom, List.get_eq_getElem]
  have key : ∀ (b b' : Fin n → Fin n → Bool) (i i' : ℕ) (hi : i < (sortPositions n b).length)
      (hi' : i' < (sortPositions n b').length), b = b' → i = i' → (sortPositions n b)[i] = (sortPositions n b')[i'] := by
    rintro b _ i _ hi hi' rfl rfl; rfl
  refine key _ _ _ _ _ _ (funext fun k => funext fun k' => ?_) (Nat.zero_add _)
  refine (congrArg₂ (fun a b : EReal => FloatOps.cmpfTotal (F := Ideal) (φ := .f32) .gt a b == 1#1)
    (congrArg y (hal _ k)) (congrArg y (hal _ k'))).trans ?_
  show (BitVec.ofBool (decide (y (ix1 k') < y (ix1 k))) == 1#1) = _
  cases decide (y (ix1 k') < y (ix1 k)) <;> rfl

end Sorted

end Cert.Hand
-- ==== Proof.Rounds.lean ====
module

public import proofs.«01_k».proof.Proof.KernelValue
public import proofs.«01_k».proof.Proof.TopK
public import Idealize.ShloMosaic.PureOps.Reduce

@[expose] public section

noncomputable section

/-! The kernel's reductions of a sixteen by 128 array over the extended reals: its sum, its largest entry, and the
    rounds that take the largest entry out. -/

namespace Cert.Hand

open Idealize.ShloMosaic Idealize.ShloMosaic.ValueIdx
open Cert.KernelIdeal Cert.KernelIdeal.Gen

/-- Every index drops to the one index of a shape with one element. -/
theorem filter_one (h : S1x16x128.Reduces [1, 2] S1) (j : S1.Idx) :
    (Finset.univ.filter fun i => h.drop i = j) = Finset.univ :=
  Finset.filter_true_of_mem fun i _ => funext fun b => Fin.ext (by
    have h1 : ∀ b, S1.size b = 1 := by decide
    have := (h.drop i b).isLt; have := (j b).isLt; have := h1 b; omega)

/-- A fold of the maximum from minus infinity is the least upper bound. -/
theorem fold_max_eq_sup {ι : Type} (s : Finset ι) (x : ι → EReal) : s.fold max ⊥ x = s.sup x := rfl

/-- A least upper bound does not change when the family is read through a bijection. -/
theorem sup_equiv {ι κ : Type} [Fintype ι] [Fintype κ] (e : ι ≃ κ) (x : κ → EReal) :
    (Finset.univ.sup fun i => x (e i)) = Finset.univ.sup x :=
  le_antisymm (Finset.sup_le fun i _ => Finset.le_sup (f := x) (Finset.mem_univ _))
    (Finset.sup_le fun i _ => by
      have h := Finset.le_sup (f := fun i => x (e i)) (Finset.mem_univ (e.symm i))
      simpa using h)

theorem ofBits_neg_inf : Ideal.ofBits .f32 0xFF800000#32 = (⊥ : EReal) := by
  simp [Ideal.ofBits, Ideal.ieee]

/-- The largest entry is the least upper bound of the entries. -/
theorem peak_eq (x : FVec Ideal S16x128 .f32) : peak (F := Ideal) x = (Finset.univ.sup x : EReal) := by
  unfold peak extractAt shapeCast
  refine (multiReduction_maximumf_eq_fold _ _ _ _ _ _).trans ?_
  rw [filter_one]
  refine Eq.trans ?_ (sup_equiv (Shape.reshapeEquiv shapeCasts_S16x128_S1x16x128) x)
  rw [← fold_max_eq_sup, ← ofBits_neg_inf]
  rfl

/-- The sum of all entries. -/
theorem total_eq (x : FVec Ideal S16x128 .f32) : total (F := Ideal) x = (∑ i, x i : EReal) := by
  unfold total extractAt shapeCast
  refine (Ideal.multiReduction_add_total _ _ _ (by decide) _ _ _).trans ?_
  exact Equiv.sum_comp (Shape.reshapeEquiv shapeCasts_S16x128_S1x16x128) x

/-- A position's number. -/
theorem flat_apply (i : S16x128.Idx) : flat i = BitVec.ofNat 32 (128 * (i 0).val + (i 1).val) := by
  have h0 : iota .tc S16x128 32 [0] iota_S16x128_d0_w32 i = BitVec.ofNat 32 (i 0).val := by
    simp [iota]
  have h1 : iota .tc S16x128 32 [1] iota_S16x128_d1_w32 i = BitVec.ofNat 32 (i 1).val := by
    simp [iota]
  show iota .tc S16x128 32 [0] iota_S16x128_d0_w32 i * 128#32 + iota .tc S16x128 32 [1] iota_S16x128_d1_w32 i = _
  rw [h0, h1, BitVec.ofNat_add, BitVec.ofNat_mul, BitVec.mul_comm]

theorem toNat_flat (i : S16x128.Idx) : (flat i).toNat = 128 * (i 0).val + (i 1).val := by
  have h0 : (i 0).val < 16 := (i 0).isLt
  have h1 : (i 1).val < 128 := (i 1).isLt
  rw [flat_apply, BitVec.toNat_ofNat]; omega

/-- Different positions have different numbers. -/
theorem flat_injective : Function.Injective flat := fun i j h => by
  have h' : (flat i).toNat = (flat j).toNat := congrArg _ h
  have hi : (i 1).val < 128 := (i 1).isLt
  have hj : (j 1).val < 128 := (j 1).isLt
  rw [toNat_flat, toNat_flat] at h'
  funext a
  match a with
  | ⟨0, _⟩ => exact Fin.ext (by show (i 0).val = (j 0).val; omega)
  | ⟨1, _⟩ => exact Fin.ext (by show (i 1).val = (j 1).val; omega)

/-- A fold of the signed minimum is its start or one of the family's words, and is at most each of them. -/
theorem fold_minsi {ι : Type} [DecidableEq ι] (s : Finset ι) (b : BitVec 32) (f : ι → BitVec 32) :
    (s.fold IntOp.minsi b f = b ∨ ∃ i ∈ s, s.fold IntOp.minsi b f = f i) ∧
      ∀ i ∈ s, (s.fold IntOp.minsi b f).toInt ≤ (f i).toInt := by
  induction s using Finset.induction_on with
  | empty => exact ⟨.inl rfl, by simp⟩
  | insert a s ha ih =>
    rw [Finset.fold_insert ha]
    generalize s.fold IntOp.minsi b f = r at ih
    unfold IntOp.minsi
    simp only [BitVec.slt, decide_eq_true_eq]
    split_ifs with h
    · refine ⟨.inr ⟨a, Finset.mem_insert_self _ _, rfl⟩, fun i hi => ?_⟩
      rcases Finset.mem_insert.1 hi with rfl | hi
      · exact le_rfl
      · exact h.le.trans (ih.2 i hi)
    · refine ⟨ih.1.imp_right fun ⟨i, hi, e⟩ => ⟨i, Finset.mem_insert_of_mem hi, e⟩, fun i hi => ?_⟩
      rcases Finset.mem_insert.1 hi with rfl | hi
      · exact not_lt.1 h
      · exact ih.2 i hi

/-- The position found for a value that occurs is the number of an entry with that value. -/
theorem place_spec (x : FVec Ideal S16x128 .f32) (p : EReal) (i₀ : S16x128.Idx) (h₀ : x i₀ = p) :
    ∃ i, x i = p ∧ place (F := Ideal) x p = flat i := by
  set e := Shape.reshapeEquiv shapeCasts_S16x128_S1x16x128
  set w : S16x128.Idx → BitVec 32 := fun i => if x i = p then flat i else 1073741824#32 with hw
  have hsel : shapeCast S1x16x128 (select (cmpf (F := Ideal) (φ := .f32) .oeq x (broadcast S16x128 p)) flat
      (broadcast S16x128 1073741824#32)) shapeCasts_S16x128_S1x16x128 = fun j => w (e j) := by
    funext j
    show (if BitVec.ofBool (decide (x (e j) = p)) = 1#1 then _ else _) = _
    simp only [hw]
    by_cases hp : x (e j) = p
    · simp [hp]; rfl
    · simp [hp, broadcast]
  have hfold : place (F := Ideal) x p = Finset.univ.fold IntOp.minsi 2147483647#32 (fun j => w (e j)) := by
    unfold place extractAt
    rw [hsel]
    refine (multiReductionI_eq_fold _ _ _ _ _ _).trans ?_
    rw [filter_one]
    rfl
  rw [hfold]
  obtain ⟨hm, hle⟩ := fold_minsi Finset.univ 2147483647#32 fun j => w (e j)
  have hl := hle (e.symm i₀) (Finset.mem_univ _)
  generalize Finset.univ.fold IntOp.minsi 2147483647#32 (fun j => w (e j)) = r at hm hl
  have hsmall : (flat i₀).toInt < 2048 := by
    have h0 : (i₀ 0).val < 16 := (i₀ 0).isLt
    have h1 : (i₀ 1).val < 128 := (i₀ 1).isLt
    rw [BitVec.toInt_eq_toNat_of_lt (by rw [toNat_flat]; omega), toNat_flat]; omega
  have hw₀ : w (e (e.symm i₀)) = flat i₀ := by rw [Equiv.apply_symm_apply, hw]; exact if_pos h₀
  rw [hw₀] at hl
  rcases hm with rfl | ⟨j, -, rfl⟩
  · exact absurd hl (by rw [show (2147483647#32 : BitVec 32).toInt = 2147483647 from by decide]; omega)
  · by_cases hp : x (e j) = p
    · exact ⟨e j, hp, by rw [hw]; exact if_pos hp⟩
    · exfalso
      have hj : w (e j) = 1073741824#32 := by rw [hw]; exact if_neg hp
      rw [hj, show (1073741824#32 : BitVec 32).toInt = 1073741824 from by decide] at hl
      omega

/-- Striking the position of an entry replaces that entry, and no other, by minus infinity. -/
theorem strike_flat (x : FVec Ideal S16x128 .f32) (i : S16x128.Idx) :
    strike (F := Ideal) x (flat i) = Function.update x i (⊥ : EReal) := by
  funext j
  show (if BitVec.ofBool (flat j == flat i) = 1#1 then Ideal.ofBits .f32 0xFF800000#32 else x j) = _
  rw [ofBits_neg_inf]
  by_cases h : j = i
  · subst h; simp
  · rw [Function.update_of_ne h]
    have hne : (flat j == flat i) = false := by
      rw [beq_eq_false_iff_ne]; exact fun e => h (flat_injective e)
    rw [hne]; simp

/-- One round replaces a largest entry by minus infinity. -/
theorem rest_step (x : FVec Ideal S16x128 .f32) (k : ℕ) :
    ∃ p, rest (F := Ideal) x k p = (Finset.univ.sup (rest (F := Ideal) x k) : EReal) ∧
      rest (F := Ideal) x (k + 1) = Function.update (rest (F := Ideal) x k) p (⊥ : EReal) := by
  obtain ⟨i₀, -, h₀⟩ := Finset.exists_mem_eq_sup (Finset.univ : Finset S16x128.Idx)
    ⟨fun a => ⟨0, by fin_cases a <;> decide⟩, Finset.mem_univ _⟩ (rest (F := Ideal) x k)
  obtain ⟨i, hi, hp⟩ := place_spec (rest (F := Ideal) x k) _ i₀ h₀.symm
  refine ⟨i, hi, ?_⟩
  show strike (rest x k) (place (rest x k) (peak (rest x k))) = _
  rw [peak_eq, hp, strike_flat]

section Against

variable (x : FVec Ideal S16x128 .f32) {n : ℕ} (y : Fin n → EReal) (e : S16x128.Idx ≃ Fin n)
  (hxy : ∀ i, x i = y (e i))
include hxy

/-- An array that holds a vector's values has, in round `k`, the vector's value number `k` in descending order as its
    largest entry. -/
theorem peak_rest (k : ℕ) (hk : k < n) :
    peak (F := Ideal) (rest (F := Ideal) x k) = (descending y)[k]'(by rw [length_descending]; exact hk) := by
  rw [peak_eq]
  refine sup_rounds (fun k => rest (F := Ideal) x k) (rest_step x) (descending y) (pairwise_descending y) ?_ k
    (by rw [length_descending]; exact hk)
  rw [← values_descending y]
  have hx : rest (F := Ideal) x 0 = fun i => y (e i) := funext hxy
  show Multiset.map (rest (F := Ideal) x 0) _ = _
  rw [hx, ← Function.comp_def, ← Multiset.map_map]
  congr 1
  have := congrArg Finset.val (Finset.map_univ_equiv e)
  rwa [Finset.map_val] at this

/-- The sum of the first twenty rounds' largest entries is the sum of the vector's first values in descending order. -/
theorem topSum_eq (m : ℕ) (hm : m ≤ n) :
    topSum (F := Ideal) x m
      = (∑ k : Fin m, (descending y)[k.val]'(by rw [length_descending]; exact k.isLt.trans_le hm) : EReal) := by
  induction m with
  | zero => exact (Ideal.ofBits_zero_f32).trans (by simp)
  | succ m ih =>
    rw [Fin.sum_univ_castSucc]
    show (topSum (F := Ideal) x m + peak (F := Ideal) (rest (F := Ideal) x m) : EReal) = _
    rw [ih (by omega), peak_rest x y e hxy m (by omega)]
    rfl

/-- The sum of all entries is the vector's sum. -/
theorem total_eq_sum : total (F := Ideal) x = (∑ k, y k : EReal) := by
  rw [total_eq, ← Equiv.sum_comp e]
  exact Finset.sum_congr rfl fun i _ => hxy i

/-- The largest of the rounds' largest entries is the vector's largest value. -/
theorem topMax_eq (m : ℕ) : topMax (F := Ideal) x (m + 1) = (Finset.univ.sup y : EReal) := by
  have hanti : ∀ k, (Finset.univ.sup (rest (F := Ideal) x k) : EReal) ≤ Finset.univ.sup x := by
    intro k
    induction k with
    | zero => exact le_rfl
    | succ k ih =>
      obtain ⟨p, -, hs⟩ := rest_step x k
      refine le_trans (Finset.sup_le fun i _ => ?_) ih
      rw [hs]
      by_cases h : i = p
      · subst h; rw [Function.update_self]; exact bot_le
      · rw [Function.update_of_ne h]; exact Finset.le_sup (f := rest (F := Ideal) x k) (Finset.mem_univ i)
  have hxs : (Finset.univ.sup x : EReal) = Finset.univ.sup y := by
    rw [← sup_equiv e y]; exact congrArg _ (funext hxy)
  rw [← hxs]
  induction m with
  | zero =>
    show max (Ideal.ofBits .f32 0xFF800000#32 : EReal) (peak (F := Ideal) x) = _
    rw [ofBits_neg_inf, peak_eq, max_eq_right bot_le]
  | succ m ih =>
    show max (topMax (F := Ideal) x (m + 1) : EReal) (peak (F := Ideal) (rest (F := Ideal) x (m + 1))) = _
    rw [ih, peak_eq, max_eq_left (hanti _)]

end Against

end Cert.Hand
-- ==== Proof.Blocks.lean ====
module

public import proofs.«01_k».proof.Proof.Rounds
public import Idealize.ShloMosaic.Lib.MatmulPlain
public import Idealize.ShloMosaic.Lib.Pipeline.Value

@[expose] public section

noncomputable section

/-! The kernel's two arrays of scores, entry by entry. -/

namespace Cert.Hand

open Idealize.ShloMosaic Idealize.ShloMosaic.ValueIdx
open Cert.KernelIdeal Cert.KernelIdeal.Gen

/-- The trunk's entry: the node's features against one column of the first weights. -/
def trunkAt (x : FVec Ideal S4096x256 .f32) (w1 : FVec Ideal S256x256 .f32) (n : Fin 4096) (k : Fin 256) : EReal :=
  ∑ j : Fin 256, x (ix2 n j) * w1 (ix2 j k)

/-- The hidden layer's entry: the node's adjacency row against the trunk, plus its local features against their
    weights, rectified. -/
def hidden (x : FVec Ideal S4096x256 .f32) (adj : FVec Ideal S4096x4096 .f32) (l : FVec Ideal S4096x16 .f32)
    (w1 : FVec Ideal S256x256 .f32) (wl : FVec Ideal S16x256 .f32) (n : Fin 4096) (k : Fin 256) : EReal :=
  max (∑ j : Fin 4096, adj (ix2 n j) * trunkAt x w1 j k + ∑ q : Fin 16, l (ix2 n q) * wl (ix2 q k)) 0

/-- The node's score as the kernel computes it: the hidden layer against the difference of the two output columns, plus
    the difference of the two output biases. -/
def score (x : FVec Ideal S4096x256 .f32) (adj : FVec Ideal S4096x4096 .f32) (l : FVec Ideal S4096x16 .f32)
    (w1 : FVec Ideal S256x256 .f32) (wl : FVec Ideal S16x256 .f32) (w2 : FVec Ideal S256x2 .f32)
    (b2 : FVec Ideal S1x2 .f32) (n : Fin 4096) : EReal :=
  ∑ k : Fin 256, hidden x adj l w1 wl n k * (w2 (ix2 k 1) - w2 (ix2 k 0)) + (b2 (ix2 0 1) - b2 (ix2 0 0))

/-- A plain product onto zero, entry by entry. -/
theorem plain_zero_apply {M K N : ℕ} (lhs : FVec Ideal ⟨2, ![M, K]⟩ .f32) (rhs : FVec Ideal ⟨2, ![K, N]⟩ .f32)
    (r : Fin M) (c : Fin N) :
    matmul (DotDims.plain M K N) none lhs rhs (constant _ .f32 0x00000000#32) (ix2 r c)
      = (∑ k : Fin K, lhs (ix2 r k) * rhs (ix2 k c) : EReal) := by
  refine (Ideal.matmul_plain_apply none lhs rhs _ r c).trans ?_
  refine (congrArg (fun a : EReal => a + _) Ideal.ofBits_zero_f32).trans ?_
  exact zero_add _

theorem trunk_apply (x : FVec Ideal S4096x256 .f32) (w1 : FVec Ideal S256x256 .f32) (n : Fin 4096) (k : Fin 256) :
    trunk (F := Ideal) x w1 (ix2 n k) = trunkAt x w1 n k :=
  plain_zero_apply x w1 n k

theorem wdiff_apply (w2 : FVec Ideal S256x2 .f32) (k : Fin 256) :
    wdiff (F := Ideal) w2 (ix2 k 0) = (w2 (ix2 k 1) - w2 (ix2 k 0) : EReal) := by
  refine congrArg₂ (fun a b : EReal => a - b) (congrArg w2 ?_) (congrArg w2 ?_) <;>
  · funext a
    match a with
    | ⟨0, _⟩ => exact Fin.ext (by show 0 + 1 * k.val = k.val; omega)
    | ⟨1, _⟩ => rfl

theorem bdiff_apply (b2 : FVec Ideal S1x2 .f32) :
    bdiff (F := Ideal) b2 = (b2 (ix2 0 1) - b2 (ix2 0 0) : EReal) := by
  refine congrArg₂ (fun a b : EReal => a - b) (congrArg b2 ?_) (congrArg b2 ?_) <;>
  · funext a
    match a with
    | ⟨0, _⟩ => rfl
    | ⟨1, _⟩ => rfl

/-- A cut of whole rows read at an index. -/
theorem rows_apply {N C R off : ℕ} (h : ∀ a : Fin 2, (![off, 0] : Fin 2 → ℕ) a + (⟨2, ![R, C]⟩ : Shape).size a
      ≤ (⟨2, ![N, C]⟩ : Shape).size a) (x : (⟨2, ![N, C]⟩ : Shape).Idx → EReal) (r : Fin R) (c : Fin C)
    (hr : off + r.val < N) :
    cut (Rect.unit (s := ⟨2, ![N, C]⟩) ![off, 0] (⟨2, ![R, C]⟩ : Shape).size h) x (ix2 r c) = x (ix2 ⟨off + r.val, hr⟩ c) := by
  refine congrArg x ?_
  funext a
  match a with
  | ⟨0, _⟩ => exact Fin.ext (by show off + 1 * r.val = off + r.val; omega)
  | ⟨1, _⟩ => exact Fin.ext (by show 0 + 1 * c.val = c.val; omega)

section Scores

variable (x : FVec Ideal S4096x256 .f32) (adj : FVec Ideal S4096x4096 .f32) (l : FVec Ideal S4096x16 .f32)
  (w1 : FVec Ideal S256x256 .f32) (wl : FVec Ideal S16x256 .f32) (w2 : FVec Ideal S256x2 .f32)
  (b2 : FVec Ideal S1x2 .f32)

/-- A block of rows at an offset holds those rows' scores. -/
theorem block_apply {R off : ℕ} (ha) (hl) (r : Fin R) (hr : off + r.val < 4096) :
    block (F := Ideal) R (adjAt R off ha adj) (trunk x w1) (localAt R off hl l) wl (wdiff w2) (bdiff b2) (ix2 r 0)
      = score x adj l w1 wl w2 b2 ⟨off + r.val, hr⟩ := by
  refine congrArg₂ (fun a b : EReal => a + b) ((plain_zero_apply _ _ r 0).trans ?_) (bdiff_apply b2)
  refine Finset.sum_congr rfl fun k _ => congrArg₂ (fun a b : EReal => a * b) ?_ (wdiff_apply w2 k)
  refine congrArg₂ (fun a b : EReal => max a b) (congrArg₂ (fun a b : EReal => a + b)
    ((plain_zero_apply _ _ r k).trans (Finset.sum_congr rfl fun j _ => ?_))
    ((plain_zero_apply _ _ r k).trans (Finset.sum_congr rfl fun q _ => ?_))) Ideal.ofBits_zero_f32
  · exact congrArg₂ (fun a b : EReal => a * b) (rows_apply ha adj r j hr) (trunk_apply x w1 j k)
  · exact congrArg (fun a : EReal => a * wl (ix2 q k)) (rows_apply hl l r q hr)

/-- A column of rows read as lines of 128. -/
theorem lines_apply {R K : ℕ} (v : (⟨2, ![R, 1]⟩ : Shape).Idx → EReal)
    (h : (⟨2, ![R, 1]⟩ : Shape).ShapeCasts ⟨2, ![K, 128]⟩) (p : Fin K) (q : Fin 128) (hr : 128 * p.val + q.val < R) :
    shapeCast ⟨2, ![K, 128]⟩ v h (ix2 p q) = v (ix2 ⟨128 * p.val + q.val, hr⟩ 0) := by
  refine shapeCast_apply v h _ _ ?_
  rw [Shape.rowMajor_val_two, Shape.rowMajor_val_two]
  show (128 * p.val + q.val) * 1 + 0 = p.val * 128 + q.val
  omega

/-- A piece of a concatenation of lines, when the piece is a block of rows. -/
theorem piece_apply (xs : List ((s : Shape) × (s.Idx → EReal)))
    (h : Shape.Concatenates (xs.map (·.1)) S16x128 0) (i : S16x128.Idx) (k : ℕ) (hk : k < xs.length) {R K off : ℕ}
    (ha) (hl) (hc : (⟨2, ![R, 1]⟩ : Shape).ShapeCasts ⟨2, ![K, 128]⟩) (pre : ℕ)
    (hxk : xs[k] = ⟨⟨2, ![K, 128]⟩, shapeCast ⟨2, ![K, 128]⟩ (block (F := Ideal) R (adjAt R off ha adj) (trunk x w1)
      (localAt R off hl l) wl (wdiff w2) (bdiff b2)) hc⟩)
    (hpre : (((xs.take k).map (·.1)).map fun s => if h : s.rank = S16x128.rank then s.size ((0 : Fin 2).cast h.symm) else 0).sum
      = pre)
    (hRK : R = 128 * K) (hlo : pre ≤ (i 0).val) (hhi : (i 0).val < pre + K) (base : ℕ) (hoff : off = base + 128 * pre)
    (hn : base + (128 * (i 0).val + (i 1).val) < 4096) :
    concatenate S16x128 0 xs h i = score x adj l w1 wl w2 b2 ⟨base + (128 * (i 0).val + (i 1).val), hn⟩ := by
  have h1 : (i 1).val < 128 := (i 1).isLt
  refine (concatenate_apply_piece 0 xs h i k hk _ _ hxk rfl pre hpre
    (ix2 (⟨(i 0).val - pre, by omega⟩ : Fin K) (⟨(i 1).val, h1⟩ : Fin 128)) ?_ ?_).trans ?_
  · intro b hb
    match b with
    | ⟨0, _⟩ => exact absurd rfl hb
    | ⟨1, _⟩ => rfl
  · show pre + ((i 0).val - pre) = (i 0).val
    omega
  · refine (lines_apply _ hc _ _ (by show 128 * ((i 0).val - pre) + (i 1).val < R; omega)).trans ?_
    refine (block_apply x adj l w1 wl w2 b2 ha hl _ (by
      show off + (128 * ((i 0).val - pre) + (i 1).val) < 4096; omega)).trans ?_
    refine congrArg _ (Fin.ext ?_)
    show off + (128 * ((i 0).val - pre) + (i 1).val) = base + (128 * (i 0).val + (i 1).val)
    omega

/-- The first array holds the scores of the first 2048 nodes in reading order. -/
theorem halfA_apply (i : S16x128.Idx) (hn : 0 + (128 * (i 0).val + (i 1).val) < 4096) :
    halfA (F := Ideal) x adj l w1 wl w2 b2 i = score x adj l w1 wl w2 b2 ⟨0 + (128 * (i 0).val + (i 1).val), hn⟩ := by
  have h0 : (i 0).val < 16 := (i 0).isLt
  unfold halfA scoresA
  rcases (by omega : (i 0).val < 1 ∨ (1 ≤ (i 0).val ∧ (i 0).val < 5) ∨ (5 ≤ (i 0).val ∧ (i 0).val < 9) ∨
      (9 ≤ (i 0).val ∧ (i 0).val < 13) ∨ 13 ≤ (i 0).val) with h | h | h | h | h
  · exact piece_apply x adj l w1 wl w2 b2 _ _ i 0 (by simp) _ _ _ 0 rfl rfl rfl (by omega) (by omega) 0 rfl hn
  · exact piece_apply x adj l w1 wl w2 b2 _ _ i 1 (by simp) _ _ _ 1 rfl rfl rfl (by omega) (by omega) 0 rfl hn
  · exact piece_apply x adj l w1 wl w2 b2 _ _ i 2 (by simp) _ _ _ 5 rfl rfl rfl (by omega) (by omega) 0 rfl hn
  · exact piece_apply x adj l w1 wl w2 b2 _ _ i 3 (by simp) _ _ _ 9 rfl rfl rfl (by omega) (by omega) 0 rfl hn
  · exact piece_apply x adj l w1 wl w2 b2 _ _ i 4 (by simp) _ _ _ 13 rfl rfl rfl (by omega) (by omega) 0 rfl hn

/-- The second array holds the scores of the last 2048 nodes in reading order. -/
theorem halfB_apply (i : S16x128.Idx) (hn : 2048 + (128 * (i 0).val + (i 1).val) < 4096) :
    halfB (F := Ideal) x adj l w1 wl w2 b2 i
      = score x adj l w1 wl w2 b2 ⟨2048 + (128 * (i 0).val + (i 1).val), hn⟩ := by
  have h0 : (i 0).val < 16 := (i 0).isLt
  unfold halfB scoresB
  rcases (by omega : (i 0).val < 3 ∨ (3 ≤ (i 0).val ∧ (i 0).val < 7) ∨ (7 ≤ (i 0).val ∧ (i 0).val < 11) ∨
      (11 ≤ (i 0).val ∧ (i 0).val < 15) ∨ 15 ≤ (i 0).val) with h | h | h | h | h
  · exact piece_apply x adj l w1 wl w2 b2 _ _ i 0 (by simp) _ _ _ 0 rfl rfl rfl (by omega) (by omega) 2048 rfl hn
  · exact piece_apply x adj l w1 wl w2 b2 _ _ i 1 (by simp) _ _ _ 3 rfl rfl rfl (by omega) (by omega) 2048 rfl hn
  · exact piece_apply x adj l w1 wl w2 b2 _ _ i 2 (by simp) _ _ _ 7 rfl rfl rfl (by omega) (by omega) 2048 rfl hn
  · exact piece_apply x adj l w1 wl w2 b2 _ _ i 3 (by simp) _ _ _ 11 rfl rfl rfl (by omega) (by omega) 2048 rfl hn
  · exact piece_apply x adj l w1 wl w2 b2 _ _ i 4 (by simp) _ _ _ 15 rfl rfl rfl (by omega) (by omega) 2048 rfl hn

end Scores

/-- The positions of sixteen lines of 128 numbered in reading order. -/
def lineEquiv : S16x128.Idx ≃ Fin 2048 where
  toFun i := ⟨128 * (i 0).val + (i 1).val, by
    have h0 : (i 0).val < 16 := (i 0).isLt
    have h1 : (i 1).val < 128 := (i 1).isLt
    omega⟩
  invFun n := ix2 (⟨n.val / 128, by omega⟩ : Fin 16) (⟨n.val % 128, by omega⟩ : Fin 128)
  left_inv i := by
    have h1 : (i 1).val < 128 := (i 1).isLt
    funext a
    match a with
    | ⟨0, _⟩ => exact Fin.ext (by show (128 * (i 0).val + (i 1).val) / 128 = (i 0).val; omega)
    | ⟨1, _⟩ => exact Fin.ext (by show (128 * (i 0).val + (i 1).val) % 128 = (i 1).val; omega)
  right_inv n := Fin.ext (by show 128 * (n.val / 128) + n.val % 128 = n.val; omega)

end Cert.Hand
-- ==== Proof.RefValue.lean ====
module

public import proofs.«01_k».proof.Proof.Blocks
public import proofs.«01_k».proof.Proof.Gen.ReferenceIdeal.Run
public import Idealize.ShloMosaic.Lib.IdealHost

@[expose] public section

noncomputable section

/-! What the reference computes over the extended reals: each node's score, and from each half of the scores the mean,
    the maximum and the mean of the twenty largest, combined by one product. -/

namespace Cert.Hand

open Idealize.ShloMosaic Idealize.ShloMosaic.ValueIdx Idealize.ShloMosaic.TcCoe
open Cert.ReferenceIdeal Cert.ReferenceIdeal.Gen

/-- The reference's logits. -/
def refLogits (x : FVec Ideal S4096x256 .f32) (adj : FVec Ideal S4096x4096 .f32) (l : FVec Ideal S4096x16 .f32)
    (w1 : FVec Ideal S256x256 .f32) (wl : FVec Ideal S16x256 .f32) (w2 : FVec Ideal S256x2 .f32)
    (b : FVec Ideal S2 .f32) : FVec Ideal S4096x2 .f32 :=
  addf (Host.dotGeneral dot_S4096x256_S256x2_S4096x2_1_0_0_1_n_n none
      (maximumf (addf (Host.dotGeneral dot_S4096x4096_S4096x256_S4096x256_1_0_0_1_n_n none adj
          (Host.dotGeneral dot_S4096x256_S256x256_S4096x256_1_0_0_1_n_n none x w1))
          (Host.dotGeneral dot_S4096x16_S16x256_S4096x256_1_0_0_1_n_n none l wl))
        (broadcastInDim S4096x256 ![] bcast_S_S4096x256 (constant S_ .f32 0x00000000#32))) w2)
    (broadcastInDim S4096x2 ![0, 1] bcast_S1x2_S4096x2_0_1 (broadcastInDim S1x2 ![1] bcast_S2_S1x2_1 b))

/-- The difference of the two columns of an array. -/
def refDiff (z : FVec Ideal S4096x2 .f32) : FVec Ideal S4096 .f32 :=
  subf (shapeCast _ (extractStridedSlice S4096x1 ![0, 1] z slices_S4096x2_S4096x1_0_1) shapeCasts_S4096x1_S4096)
    (shapeCast _ (extractStridedSlice S4096x1 ![0, 0] z slices_S4096x2_S4096x1_0_0) shapeCasts_S4096x1_S4096)

/-- A vector's mean. -/
def refMean (y : FVec Ideal S2048 .f32) : FVec Ideal S_ .f32 :=
  Host.divf (Host.reduceAdd y (constant S_ .f32 0x00000000#32) reducesTo_S2048_S_d0 h_S_) (constant S_ .f32 0x45000000#32)

/-- A vector's maximum. -/
def refMax (y : FVec Ideal S2048 .f32) : FVec Ideal S_ .f32 :=
  Host.reduce FloatOps.maximumf y (constant S_ .f32 0xFF800000#32) reducesTo_S2048_S_d0 h_S_

/-- The mean of a vector's twenty largest values. -/
def refTop (y : FVec Ideal S2048 .f32) : FVec Ideal S_ .f32 :=
  Host.divf (Host.reduceAdd (Host.topK S20 0 (FloatOps.cmpfTotal .gt) y sliceFits_S2048_S20).1
    (constant S_ .f32 0x00000000#32) reducesTo_S20_S_d0 h_S_) (constant S_ .f32 0x41A00000#32)

/-- Six numbers as one vector. -/
def refPool (f0 f1 f2 f3 f4 f5 : FVec Ideal S_ .f32) : FVec Ideal S6 .f32 :=
  concatenate S6 0 [⟨S1, broadcastInDim S1 ![] bcast_S_S1 f0⟩, ⟨S1, broadcastInDim S1 ![] bcast_S_S1 f1⟩,
    ⟨S1, broadcastInDim S1 ![] bcast_S_S1 f2⟩, ⟨S1, broadcastInDim S1 ![] bcast_S_S1 f3⟩,
    ⟨S1, broadcastInDim S1 ![] bcast_S_S1 f4⟩, ⟨S1, broadcastInDim S1 ![] bcast_S_S1 f5⟩]
    concatenates_S1_S1_S1_S1_S1_S1_S6_d0

/-- Six numbers against the combining weights, plus the last bias. -/
def refCombine (p : FVec Ideal S6 .f32) (w : FVec Ideal S1x6 .f32) (b : FVec Ideal S1 .f32) : FVec Ideal S1 .f32 :=
  shapeCast _ (addf (Host.dotGeneral dot_S1x6_S6x1_S1x1_1_0_0_1_n_n none (shapeCast _ p shapeCasts_S6_S1x6)
    (transpose S6x1 [1, 0] w transposes_S1x6_S6x1_1_0)) (broadcastInDim S1x1 ![1] bcast_S1_S1x1_1 b)) shapeCasts_S1x1_S1

/-- The reference's result from the differences of the logits, the combining weights and the last bias. -/
def refOut (d : FVec Ideal S4096 .f32) (w : FVec Ideal S1x6 .f32) (b : FVec Ideal S1 .f32) : FVec Ideal S1 .f32 :=
  refCombine (refPool (refMean (extractStridedSlice S2048 ![0] d slices_S4096_S2048_0))
    (refMax (extractStridedSlice S2048 ![0] d slices_S4096_S2048_0))
    (refTop (extractStridedSlice S2048 ![0] d slices_S4096_S2048_0))
    (refMean (extractStridedSlice S2048 ![2048] d slices_S4096_S2048_2048))
    (refMax (extractStridedSlice S2048 ![2048] d slices_S4096_S2048_2048))
    (refTop (extractStridedSlice S2048 ![2048] d slices_S4096_S2048_2048))) w b

/-- The reference's result is these functions of its arguments. -/
theorem res_eq (m : (ℓ : Loc nD τ sig) → Buf (Elt Ideal) ℓ) (c : Dev nD) :
    Cert.ReferenceIdeal.Value.res_main_v38 m c = refOut (refDiff (refLogits (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))))
      (m ((c.tc : Thread nD τ).loc main_arg7)) (m ((c.tc : Thread nD τ).loc main_arg8)) := rfl

/-- The host's plain product, entry by entry. -/
theorem hostPlain_apply {M K N : ℕ} (lhs : FVec Ideal ⟨2, ![M, K]⟩ .f32) (rhs : FVec Ideal ⟨2, ![K, N]⟩ .f32)
    (r : Fin M) (c : Fin N) :
    Host.dotGeneral (DotDims.plain M K N) none lhs rhs (ix2 r c) = (∑ k : Fin K, lhs (ix2 r k) * rhs (ix2 k c) : EReal) := by
  have h := Ideal.matmul_plain_apply (φ₁ := .f32) (φ₂ := .f32) none lhs rhs (fun _ => (0 : EReal)) r c
  rw [Ideal.matmul_apply] at h
  simp only [zero_add] at h
  exact (Ideal.dotGeneral_apply _ _ _ lhs rhs (ix2 r c)).trans h

section Logits

variable (x : FVec Ideal S4096x256 .f32) (adj : FVec Ideal S4096x4096 .f32) (l : FVec Ideal S4096x16 .f32)
  (w1 : FVec Ideal S256x256 .f32) (wl : FVec Ideal S16x256 .f32) (w2 : FVec Ideal S256x2 .f32) (b : FVec Ideal S2 .f32)

/-- A logit: the hidden layer against one output column, plus that column's bias. -/
theorem refLogits_apply (n : Fin 4096) (c : Fin 2) :
    refLogits x adj l w1 wl w2 b (ix2 n c)
      = (∑ k : Fin 256, hidden x adj l w1 wl n k * w2 (ix2 k c) + b (ix1 c) : EReal) := by
  refine congrArg₂ (fun a b : EReal => a + b) ((hostPlain_apply _ _ n c).trans ?_) ?_
  · refine Finset.sum_congr rfl fun k _ => congrArg (fun a : EReal => a * w2 (ix2 k c)) ?_
    refine congrArg₂ (fun a b : EReal => max a b) (congrArg₂ (fun a b : EReal => a + b)
      ((hostPlain_apply _ _ n k).trans (Finset.sum_congr rfl fun j _ => ?_)) (hostPlain_apply _ _ n k)) ?_
    · exact congrArg (fun a : EReal => adj (ix2 n j) * a) (hostPlain_apply x w1 j k)
    · exact (broadcastInDim_scalar_apply _ _ _).trans Ideal.ofBits_zero_f32
  · refine (broadcastInDim_apply _ _ _ _ (ix2 0 c) ?_).trans (broadcastInDim_apply _ _ _ _ (ix1 c) ?_)
    · intro a
      match a with
      | ⟨0, _⟩ => rfl
      | ⟨1, _⟩ => rfl
    · intro a
      match a with
      | ⟨0, _⟩ => rfl

/-- A difference of logits. -/
theorem refDiff_apply (z : FVec Ideal S4096x2 .f32) (n : Fin 4096) :
    refDiff z (ix1 n) = (z (ix2 n 1) - z (ix2 n 0) : EReal) := by
  have hcol : ∀ v : S4096x1.Idx → EReal, shapeCast S4096 v shapeCasts_S4096x1_S4096 (ix1 n) = v (ix2 n 0) := fun v =>
    shapeCast_apply v _ _ _ (by
      rw [Shape.rowMajor_val_two, Shape.rowMajor_val_one]
      show n.val * 1 + 0 = n.val
      omega)
  refine congrArg₂ (fun a b : EReal => a - b) ((hcol _).trans ?_) ((hcol _).trans ?_)
  · refine extractStridedSlice_apply _ _ _ _ _ fun a => ?_
    match a with
    | ⟨0, _⟩ => exact (Nat.zero_add _).symm
    | ⟨1, _⟩ => rfl
  · refine extractStridedSlice_apply _ _ _ _ _ fun a => ?_
    match a with
    | ⟨0, _⟩ => exact (Nat.zero_add _).symm
    | ⟨1, _⟩ => rfl

end Logits

/-- The first half of a vector. -/
theorem firstHalf_apply (d : FVec Ideal S4096 .f32) (k : Fin 2048) :
    extractStridedSlice S2048 ![0] d slices_S4096_S2048_0 (ix1 k) = d (ix1 ⟨0 + k.val, by omega⟩) := by
  refine extractStridedSlice_apply _ _ _ _ _ fun a => ?_
  match a with
  | ⟨0, _⟩ => rfl

/-- The second half of a vector. -/
theorem secondHalf_apply (d : FVec Ideal S4096 .f32) (k : Fin 2048) :
    extractStridedSlice S2048 ![2048] d slices_S4096_S2048_2048 (ix1 k) = d (ix1 ⟨2048 + k.val, by omega⟩) := by
  refine extractStridedSlice_apply _ _ _ _ _ fun a => ?_
  match a with
  | ⟨0, _⟩ => rfl

/-- A vector's positions as indices. -/
def ix1Equiv (n : ℕ) : (⟨1, ![n]⟩ : Shape).Idx ≃ Fin n where
  toFun j := j 0
  invFun k := ix1 k
  left_inv j := (eq_ix1 j).symm
  right_inv _ := rfl

theorem ofBits_2048 : Ideal.ofBits .f32 0x45000000#32 = ((2048 : ℝ) : EReal) := by
  simp [Ideal.ofBits, Ideal.ieee]; rw [← EReal.coe_mul]; norm_num

theorem ofBits_20 : Ideal.ofBits .f32 0x41A00000#32 = ((20 : ℝ) : EReal) := by
  simp [Ideal.ofBits, Ideal.ieee]; rw [← EReal.coe_mul]; norm_num

theorem ofBits_2048_inv : Ideal.ofBits .f32 0x3A000000#32 = ((2048⁻¹ : ℝ) : EReal) := by
  simp [Ideal.ofBits, Ideal.ieee]; rw [← EReal.coe_mul]; norm_num

theorem div_real (a : EReal) (r : ℝ) (hr : r ≠ 0) : Ideal.div a (r : EReal) = a * ((r⁻¹ : ℝ) : EReal) := by
  unfold Ideal.div
  rw [if_neg (by exact_mod_cast hr), EReal.coe_inv]

/-- The mean is the sum times one 2048th. -/
theorem refMean_apply (y : FVec Ideal S2048 .f32) (j : S_.Idx) :
    refMean y j = ((∑ k : Fin 2048, y (ix1 k)) * ((2048⁻¹ : ℝ) : EReal) : EReal) := by
  refine (congrArg₂ Ideal.div (Ideal.hostReduceAdd_total reducesTo_S2048_S_d0 (fun b => b.elim0) y _ j)
    ofBits_2048).trans ?_
  rw [div_real _ _ (by norm_num)]
  refine congrArg (fun a : EReal => a * _) ?_
  refine (congrArg (fun a : EReal => a + _) Ideal.ofBits_zero_f32).trans ?_
  rw [zero_add]
  exact Fintype.sum_equiv (ix1Equiv 2048) _ _ fun i => congrArg y (eq_ix1 i)

/-- The maximum is the least upper bound. -/
theorem refMax_apply (y : FVec Ideal S2048 .f32) (j : S_.Idx) :
    refMax y j = (Finset.univ.sup fun k : Fin 2048 => y (ix1 k) : EReal) := by
  refine (Host.reduce_eq_fold _ _ _ _ _ _).trans ?_
  rw [Finset.filter_true_of_mem fun i _ => funext fun b => b.elim0]
  refine (congrArg (fun a : EReal => Finset.univ.fold max a y) ofBits_neg_inf).trans ?_
  rw [fold_max_eq_sup, ← sup_equiv (ix1Equiv 2048)]
  exact congrArg _ (funext fun i => congrArg y (eq_ix1 i))

/-- The mean of the twenty largest is the sum of the first twenty values in descending order times one 20th. -/
theorem refTop_apply (y : FVec Ideal S2048 .f32) (j : S_.Idx) :
    refTop y j = ((∑ k : Fin 20, (descending fun k : Fin 2048 => y (ix1 k))[k.val]'(by
      rw [length_descending]; omega)) * ((20⁻¹ : ℝ) : EReal) : EReal) := by
  refine (congrArg₂ Ideal.div (Ideal.hostReduceAdd_total reducesTo_S20_S_d0 (fun b => b.elim0) _ _ j)
    ofBits_20).trans ?_
  rw [div_real _ _ (by norm_num)]
  refine congrArg (fun a : EReal => a * _) ?_
  refine (congrArg (fun a : EReal => a + _) Ideal.ofBits_zero_f32).trans ?_
  rw [zero_add]
  refine Fintype.sum_equiv (ix1Equiv 20) _ _ fun i => ?_
  rw [eq_ix1 i]
  exact topK_apply y sliceFits_S2048_S20 (i 0) ((i 0).isLt.trans (by decide))

/-- A piece of the vector of six numbers. -/
theorem pool_piece (xs : List ((s : Shape) × (s.Idx → EReal))) (h : Shape.Concatenates (xs.map (·.1)) S6 0) (k : Fin 6)
    (hk : k.val < xs.length) (f : FVec Ideal S_ .f32) (hxk : xs[k.val] = ⟨S1, broadcastInDim S1 ![] bcast_S_S1 f⟩)
    (hpre : (((xs.take k.val).map (·.1)).map fun s => if h : s.rank = S6.rank then s.size ((0 : Fin 1).cast h.symm) else 0).sum
      = k.val) : concatenate S6 0 xs h (ix1 k) = f ix0 := by
  refine (concatenate_apply_piece 0 xs h (ix1 k) k.val hk S1 _ hxk rfl k.val hpre (ix1 0) (fun b hb => ?_) rfl).trans
    (broadcastInDim_scalar_apply _ _ _)
  match b with
  | ⟨0, _⟩ => exact absurd rfl hb

/-- The vector of six numbers, entry by entry. -/
theorem refPool_apply (f : Fin 6 → FVec Ideal S_ .f32) (k : Fin 6) :
    refPool (f 0) (f 1) (f 2) (f 3) (f 4) (f 5) (ix1 k) = f k ix0 := by
  unfold refPool
  match k with
  | 0 => exact pool_piece _ _ 0 (by simp) _ rfl rfl
  | 1 => exact pool_piece _ _ 1 (by simp) _ rfl rfl
  | 2 => exact pool_piece _ _ 2 (by simp) _ rfl rfl
  | 3 => exact pool_piece _ _ 3 (by simp) _ rfl rfl
  | 4 => exact pool_piece _ _ 4 (by simp) _ rfl rfl
  | 5 => exact pool_piece _ _ 5 (by simp) _ rfl rfl

/-- The combination is the six numbers against the six weights, plus the last bias. -/
theorem refCombine_apply (p : FVec Ideal S6 .f32) (w : FVec Ideal S1x6 .f32) (b : FVec Ideal S1 .f32) (j : S1.Idx) :
    refCombine p w b j = (∑ k : Fin 6, p (ix1 k) * w (ix2 0 k) + b (ix1 0) : EReal) := by
  have hj : j = ix1 0 := by rw [eq_ix1 j]; exact congrArg ix1 (Subsingleton.elim (α := Fin 1) _ _)
  subst hj
  refine (shapeCast_apply _ _ _ (ix2 0 0) (by rw [Shape.rowMajor_val_two, Shape.rowMajor_val_one]; rfl)).trans ?_
  refine congrArg₂ (fun a b : EReal => a + b) ((hostPlain_apply _ _ 0 0).trans (Finset.sum_congr rfl fun k _ =>
    congrArg₂ (fun a b : EReal => a * b) ?_ ?_)) ?_
  · exact shapeCast_apply p _ _ _ (by
      rw [Shape.rowMajor_val_one, Shape.rowMajor_val_two]; show k.val = 0 * 6 + k.val; omega)
  · refine transpose_apply _ w _ _ _ fun a => ?_
    match a with
    | ⟨0, _⟩ => rfl
    | ⟨1, _⟩ => rfl
  · refine broadcastInDim_apply _ _ b _ (ix1 0) fun a => ?_
    match a with
    | ⟨0, _⟩ => rfl

end Cert.Hand
-- ==== Proof.Finite.lean ====
module

public import proofs.«01_k».proof.Proof.RefValue
public import proofs.«01_k».proof.Proof.Gen.Pre_finite
public import Idealize.ShloMosaic.Lib.ReduceAll

@[expose] public section

noncomputable section

/-! Where the operands of the scores are finite, the difference of two logits is the hidden layer against the difference
    of the two output columns, plus the difference of the two biases. -/

namespace Cert.Hand

open Idealize.ShloMosaic Idealize.ShloMosaic.ValueIdx

/-- An extended real that is a real number. -/
def IsReal (a : EReal) : Prop := ∃ r : ℝ, a = r

theorem IsReal.add {a b : EReal} (ha : IsReal a) (hb : IsReal b) : IsReal (a + b) := by
  obtain ⟨r, rfl⟩ := ha
  obtain ⟨t, rfl⟩ := hb
  exact ⟨r + t, (EReal.coe_add r t).symm⟩

theorem IsReal.mul {a b : EReal} (ha : IsReal a) (hb : IsReal b) : IsReal (a * b) := by
  obtain ⟨r, rfl⟩ := ha
  obtain ⟨t, rfl⟩ := hb
  exact ⟨r * t, (EReal.coe_mul r t).symm⟩

theorem IsReal.max_zero {a : EReal} (ha : IsReal a) : IsReal (max a 0) := by
  rcases max_choice a 0 with h | h
  · rw [h]; exact ha
  · rw [h]; exact ⟨0, rfl⟩

/-- A sum of real numbers as an extended real. -/
theorem coe_sum {n : ℕ} (g : Fin n → ℝ) : ((∑ k, g k : ℝ) : EReal) = ∑ k, (g k : EReal) := by
  induction n with
  | zero => simp
  | succ n ih => rw [Fin.sum_univ_succ, Fin.sum_univ_succ, EReal.coe_add, ih]

theorem IsReal.sum {n : ℕ} {f : Fin n → EReal} (hf : ∀ k, IsReal (f k)) : IsReal (∑ k, f k) := by
  choose g hg using hf
  refine ⟨∑ k, g k, ?_⟩
  rw [Finset.sum_congr rfl fun k _ => hg k]
  exact (coe_sum g).symm

/-- A value whose magnitude is below infinity is a real number. -/
theorem isReal_of_abs_lt {a : EReal} (h : max a (-a) < ⊤) : IsReal a := by
  induction a with
  | bot => simp at h
  | top => simp at h
  | coe r => exact ⟨r, rfl⟩

theorem ofBits_inf : Ideal.ofBits .f32 0x7F800000#32 = (⊤ : EReal) := by
  simp [Ideal.ofBits, Ideal.ieee]

theorem andi_one {a b : BitVec 1} (h : IntOp.andi a b = 1#1) : a = 1#1 ∧ b = 1#1 := by
  revert a b; decide

section Pre

open Cert.Pre_finite

/-- An array that passes the test of every entry's magnitude being below infinity holds real numbers. -/
theorem isReal_of_test {s : Shape} {axes : List (Fin s.rank)} (x : FVec Ideal s .f32) (hb : S_.BroadcastsInDim s ![])
    (hr : s.ReducesTo axes S_) (hu : 0 < S_.numel) (init : IVec S_ 1) (j : S_.Idx)
    (e : Host.reduce IntOp.andi (cmpf .olt (Host.absf x) (broadcastInDim s ![] hb (constant S_ .f32 0x7F800000#32)))
      init hr hu j = 1#1) (i : s.Idx) : IsReal (x i) := by
  haveI : Subsingleton S_.Idx := ⟨fun a b => funext fun k => k.elim0⟩
  have h := Host.reduce_andi_all _ init hr hu j e i
  apply isReal_of_abs_lt
  have h' : BitVec.ofBool (decide (max (x i) (-(x i)) < Ideal.ofBits .f32 0x7F800000#32)) = 1#1 := h
  rw [ofBits_inf] at h'
  by_contra hn
  rw [decide_eq_false hn] at h'
  exact absurd h' (by decide)

/-- The precondition says the features, the adjacency, the local features and the three weights before the pooling are
    real numbers. -/
theorem isReal_of_pre [Cert.Pre_finite.Facts] (x0 : FVec Ideal S4096x256 .f32) (x1 : FVec Ideal S4096x4096 .f32)
    (x2 : FVec Ideal S4096x16 .f32) (x3 : FVec Ideal S256x256 .f32) (x4 : FVec Ideal S16x256 .f32)
    (x5 : FVec Ideal S256x2 .f32) (x6 : FVec Ideal S2 .f32) (x7 : FVec Ideal S1x6 .f32) (x8 : FVec Ideal S1 .f32)
    (h : Cert.Pre_finite.fn (F := Ideal) x0 x1 x2 x3 x4 x5 x6 x7 x8 ix0 = 1#1) :
    (∀ i, IsReal (x0 i)) ∧ (∀ i, IsReal (x1 i)) ∧ (∀ i, IsReal (x2 i)) ∧ (∀ i, IsReal (x3 i)) ∧ (∀ i, IsReal (x4 i)) ∧
      ∀ i, IsReal (x5 i) := by
  obtain ⟨h, h5⟩ := andi_one h
  obtain ⟨h, h4⟩ := andi_one h
  obtain ⟨h, h3⟩ := andi_one h
  obtain ⟨h, h2⟩ := andi_one h
  obtain ⟨h0, h1⟩ := andi_one h
  exact ⟨isReal_of_test x0 _ _ _ _ _ h0, isReal_of_test x1 _ _ _ _ _ h1, isReal_of_test x2 _ _ _ _ _ h2,
    isReal_of_test x3 _ _ _ _ _ h3, isReal_of_test x4 _ _ _ _ _ h4, isReal_of_test x5 _ _ _ _ _ h5⟩

end Pre

/-- Adding different biases to two real numbers and subtracting is adding the difference of the biases to the
    difference of the numbers, whatever the biases. -/
theorem sub_biased {s t : EReal} (hs : IsReal s) (ht : IsReal t) (a b : EReal) :
    (s + a) - (t + b) = (s - t) + (a - b) := by
  obtain ⟨s, rfl⟩ := hs
  obtain ⟨t, rfl⟩ := ht
  induction a with
  | bot => simp [sub_eq_add_neg]
  | top =>
    induction b with
    | bot => simp [sub_eq_add_neg, ← EReal.coe_neg, ← EReal.coe_add]
    | top => simp [sub_eq_add_neg]
    | coe b => simp [sub_eq_add_neg, ← EReal.coe_neg, ← EReal.coe_add]
  | coe a =>
    induction b with
    | bot => simp [sub_eq_add_neg, ← EReal.coe_neg, ← EReal.coe_add]
    | top => simp [sub_eq_add_neg]
    | coe b => norm_cast; ring

/-- A sum of products against a difference is the difference of the sums, for real numbers. -/
theorem sum_mul_sub {n : ℕ} {h a b : Fin n → EReal} (hh : ∀ k, IsReal (h k)) (ha : ∀ k, IsReal (a k))
    (hb : ∀ k, IsReal (b k)) : ∑ k, h k * (a k - b k) = ∑ k, h k * a k - ∑ k, h k * b k := by
  choose h' hh using hh
  choose a' ha using ha
  choose b' hb using hb
  simp only [hh, ha, hb, ← EReal.coe_sub, ← EReal.coe_mul, ← coe_sum]
  congr 1
  rw [← Finset.sum_sub_distrib]
  exact Finset.sum_congr rfl fun k _ => by ring

open Cert.ReferenceIdeal

/-- The reference's difference of a node's two logits is the score the kernel computes. -/
theorem refScore_eq (x : FVec Ideal S4096x256 .f32) (adj : FVec Ideal S4096x4096 .f32) (l : FVec Ideal S4096x16 .f32)
    (w1 : FVec Ideal S256x256 .f32) (wl : FVec Ideal S16x256 .f32) (w2 : FVec Ideal S256x2 .f32) (b : FVec Ideal S2 .f32)
    (b2 : FVec Ideal S1x2 .f32) (hb : ∀ c : Fin 2, b2 (ix2 0 c) = b (ix1 c))
    (hx : ∀ i, IsReal (x i)) (hadj : ∀ i, IsReal (adj i)) (hl : ∀ i, IsReal (l i)) (hw1 : ∀ i, IsReal (w1 i))
    (hwl : ∀ i, IsReal (wl i)) (hw2 : ∀ i, IsReal (w2 i)) (n : Fin 4096) :
    refDiff (refLogits x adj l w1 wl w2 b) (ix1 n) = score x adj l w1 wl w2 b2 n := by
  have hh : ∀ k, IsReal (hidden x adj l w1 wl n k) := fun k => IsReal.max_zero
    (.add (.sum fun j => .mul (hadj _) (.sum fun _ => .mul (hx _) (hw1 _))) (.sum fun _ => .mul (hl _) (hwl _)))
  rw [refDiff_apply, refLogits_apply, refLogits_apply,
    sub_biased (.sum fun k => .mul (hh k) (hw2 _)) (.sum fun k => .mul (hh k) (hw2 _))]
  unfold score
  rw [sum_mul_sub hh (fun _ => hw2 _) (fun _ => hw2 _), hb, hb]

end Cert.Hand
-- ==== Proof.Equal.lean ====
module

public import proofs.«01_k».proof.Proof.Finite

@[expose] public section

noncomputable section

/-! The kernel's result is the reference's, over the extended reals, where the operands of the scores are finite. -/

namespace Cert.Hand

open Idealize.ShloMosaic Idealize.ShloMosaic.ValueIdx
open Cert.ReferenceIdeal Cert.ReferenceIdeal.Gen

/-- A combining weight is its entry of the weights' row. -/
theorem weight_apply (k : ℕ) (h) (w : FVec Ideal S1x6 .f32) (hk : k < 6) :
    only (F := Ideal) (weightAt k h w) = w (ix2 0 (⟨k, hk⟩ : Fin 6)) := by
  refine congrArg w (funext fun a => ?_)
  match a with
  | ⟨0, _⟩ => rfl
  | ⟨1, _⟩ => rfl

/-- The three numbers the kernel takes from an array of scores are those the reference takes from the same scores in
    reading order. -/
theorem pooled_eq (s : FVec Ideal ⟨2, ![16, 128]⟩ .f32) (y : FVec Ideal S2048 .f32)
    (hs : ∀ i, s i = y (ix1 (lineEquiv i))) :
    (total (F := Ideal) s * Ideal.ofBits .f32 0x3A000000#32 : EReal) = refMean y ix0 ∧
      topMax (F := Ideal) s 20 = refMax y ix0 ∧
      (topSum (F := Ideal) s 20 * Named.named (F := Ideal) (φ := .f32) Cert.KernelIdeal.κ "inv_k" 0x3D4CCCCD#32 : EReal)
        = refTop y ix0 := by
  refine ⟨?_, ?_, ?_⟩
  · rw [refMean_apply, ofBits_2048_inv, total_eq_sum s (fun k => y (ix1 k)) lineEquiv hs]
  · rw [refMax_apply]
    exact topMax_eq s (fun k => y (ix1 k)) lineEquiv hs 19
  · rw [refTop_apply, topSum_eq s (fun k => y (ix1 k)) lineEquiv hs 20 (by decide)]
    rfl

/-- The kernel's result and the reference's are equal. -/
theorem result_eq (x : FVec Ideal S4096x256 .f32) (adj : FVec Ideal S4096x4096 .f32) (l : FVec Ideal S4096x16 .f32)
    (w1 : FVec Ideal S256x256 .f32) (wl : FVec Ideal S16x256 .f32) (w2 : FVec Ideal S256x2 .f32) (b : FVec Ideal S2 .f32)
    (w : FVec Ideal S1x6 .f32) (c : FVec Ideal S1 .f32) (hb : S2.ShapeCasts S1x2) (hc : S1.ShapeCasts S1x1)
    (hx : ∀ i, IsReal (x i)) (hadj : ∀ i, IsReal (adj i)) (hl : ∀ i, IsReal (l i)) (hw1 : ∀ i, IsReal (w1 i))
    (hwl : ∀ i, IsReal (wl i)) (hw2 : ∀ i, IsReal (w2 i)) :
    shapeCast S1 (kernelOut (F := Ideal) x adj l w1 wl w2 (shapeCast S1x2 b hb) w (shapeCast S1x1 c hc)) shapeCasts_S1x1_S1
      = refOut (refDiff (refLogits x adj l w1 wl w2 b)) w c := by
  have hbias : ∀ q : Fin 2, shapeCast S1x2 b hb (ix2 0 q) = b (ix1 q) := fun q =>
    shapeCast_apply b hb _ _ (by
      rw [Shape.rowMajor_val_one, Shape.rowMajor_val_two]; show q.val = 0 * 2 + q.val; omega)
  have hlast : only (F := Ideal) (shapeCast S1x1 c hc) = c (ix1 0) :=
    shapeCast_apply c hc _ _ (by rw [Shape.rowMajor_val_one, Shape.rowMajor_val_two]; rfl)
  have hscore := refScore_eq x adj l w1 wl w2 b (shapeCast S1x2 b hb) hbias hx hadj hl hw1 hwl hw2
  generalize refDiff (refLogits x adj l w1 wl w2 b) = d at hscore
  have hA := pooled_eq (halfA (F := Ideal) x adj l w1 wl w2 (shapeCast S1x2 b hb))
    (extractStridedSlice S2048 ![0] d slices_S4096_S2048_0) fun i =>
      (halfA_apply x adj l w1 wl w2 _ i (by have := (lineEquiv i).isLt; change _ + (lineEquiv i).val < _; omega)).trans
        ((hscore _).symm.trans (firstHalf_apply d (lineEquiv i)).symm)
  have hB := pooled_eq (halfB (F := Ideal) x adj l w1 wl w2 (shapeCast S1x2 b hb))
    (extractStridedSlice S2048 ![2048] d slices_S4096_S2048_2048) fun i =>
      (halfB_apply x adj l w1 wl w2 _ i (by have := (lineEquiv i).isLt; change _ + (lineEquiv i).val < _; omega)).trans
        ((hscore _).symm.trans (secondHalf_apply d (lineEquiv i)).symm)
  funext j
  unfold refOut
  rw [refCombine_apply, Fin.sum_univ_six]
  generalize extractStridedSlice S2048 ![0] d slices_S4096_S2048_0 = ya at hA
  generalize extractStridedSlice S2048 ![2048] d slices_S4096_S2048_2048 = yb at hB
  have hp := refPool_apply ![refMean ya, refMax ya, refTop ya, refMean yb, refMax yb, refTop yb]
  have hp0 := hp 0
  have hp1 := hp 1
  have hp2 := hp 2
  have hp3 := hp 3
  have hp4 := hp 4
  have hp5 := hp 5
  simp only [Matrix.cons_val] at hp0 hp1 hp2 hp3 hp4 hp5
  rw [hp0, hp1, hp2, hp3, hp4, hp5, ← hA.1, ← hA.2.1, ← hA.2.2, ← hB.1, ← hB.2.1, ← hB.2.2, ← hlast]
  have hw0 := weight_apply 0 Cert.KernelIdeal.Gen.inb_S1x6_S1x1_0_0 w (by decide)
  have hw1 := weight_apply 1 Cert.KernelIdeal.Gen.inb_S1x6_S1x1_0_1 w (by decide)
  have hw2 := weight_apply 2 Cert.KernelIdeal.Gen.inb_S1x6_S1x1_0_2 w (by decide)
  have hw3 := weight_apply 3 Cert.KernelIdeal.Gen.inb_S1x6_S1x1_0_3 w (by decide)
  have hw4 := weight_apply 4 Cert.KernelIdeal.Gen.inb_S1x6_S1x1_0_4 w (by decide)
  have hw5 := weight_apply 5 Cert.KernelIdeal.Gen.inb_S1x6_S1x1_0_5 w (by decide)
  unfold kernelOut
  generalize halfA (F := Ideal) x adj l w1 wl w2 (shapeCast S1x2 b hb) = sa
  generalize halfB (F := Ideal) x adj l w1 wl w2 (shapeCast S1x2 b hb) = sb
  refine Eq.trans (b := combine (F := Ideal) (total sa) (topMax sa 20) (topSum sa 20) (total sb) (topMax sb 20) (topSum sb 20)
    _ _ _ _ _ _ _) rfl ?_
  rw [hw0, hw1, hw2, hw3, hw4, hw5]
  rfl

end Cert.Hand
-- ==== Proof.lean ====
module

public import proofs.«01_k».proof.Defs
public import proofs.«01_k».proof.Proof.OnBits.Result
public import proofs.«01_k».proof.Proof.Result
public import proofs.«01_k».proof.Proof.Equal
public import Idealize.ShloMosaic.Adequacy
public import Idealize.ShloMosaic.Init

@[expose] public section

noncomputable section

namespace Cert.Proof

open Idealize.ShloMosaic Idealize.ShloMosaic.ValueIdx Idealize.SL.Sem

/-- The kernel on bits runs, leaves its arguments unchanged and every counter at zero. -/
theorem frame_kernel : Cert.quiescent_Kernel (hKernel := Cert.Kernel.Gen.facts) := fun m ρ _ =>
  (θ_run Cert.Kernel.defs _ _).mono (fun _ h => ⟨fun c => (h.1 c).2, h.2⟩) (Cert.OnBits.run m ρ)

/-- The idealized kernel runs, leaves its arguments unchanged and every counter at zero. -/
theorem frame_kernel_ideal : Cert.quiescent_KernelIdeal (hKernelIdeal := Cert.KernelIdeal.Gen.facts) := fun m ρ _ =>
  (θ_run Cert.KernelIdeal.defs _ _).mono (fun _ h => ⟨fun c => (h.1 c).2, h.2⟩) (Cert.Hand.run (F := Ideal) m ρ)

/-- The reference runs, leaves its arguments unchanged and every counter at zero: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant of the idealized kernel is one twentieth. -/
theorem preserves : Cert.preserves_Kernel_KernelIdeal :=
  IdealRules.named_const.statement Cert.KernelIdeal.κ "inv_k" .f32 0x3D4CCCCD#32 ((20⁻¹ : ℝ) : EReal) rfl

/-- From finite operands of the scores, the idealized kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => Cert.Hand.result (F := Ideal) m c,
    (θ_run Cert.KernelIdeal.defs _ _).mono (fun _ h => h.1) (Cert.Hand.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  obtain ⟨r0, r1, r2, r3, r4, r5⟩ := Cert.Hand.isReal_of_pre _ _ _ _ _ _ _ _ _ (congrFun (hpre c) ix0)
  rw [Cert.Hand.res_eq]
  rw [h0, h1, h2, h3, h4, h5, h6, h7, h8]
  exact (Cert.Hand.result_eq _ _ _ _ _ _ _ _ _ _ _ r0 r1 r2 r3 r4 r5).symm

theorem claim : Cert.Claim :=
  ⟨Cert.Kernel.Gen.facts, Cert.KernelIdeal.Gen.facts, Cert.ReferenceIdeal.Gen.facts, Cert.Pre_finite.Gen.facts,
    frame_kernel, frame_kernel_ideal, fun m ρ _ => frame_kernel_ideal m ρ trivial, frame_reference,
    fun m ρ _ => frame_reference m ρ trivial, preserves, algebraic⟩

end Cert.Proof

end
